-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S16x8x2x4096 Cert.KernelIdeal.S16x8x1x4096
  ∧ IdealRules.bf16_pair.PackStatement Cert.KernelIdeal.S8x512
  ∧ IdealRules.bf16_pair.Statement Cert.KernelIdeal.S1x8x2x512 Cert.KernelIdeal.S1x8x1x512
  ∧ IdealRules.bf16_pair.Statement Cert.KernelIdeal.S1x1x2x512 Cert.KernelIdeal.S1x1x1x512
  ∧ IdealRules.bf16_pair.Statement Cert.KernelIdeal.S16x512 Cert.KernelIdeal.S8x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x768x4096 : Shape := ⟨3, ![12, 768, 4096]⟩
abbrev S4096x56x32 : Shape := ⟨3, ![4096, 56, 32]⟩
abbrev S4096x56x64 : Shape := ⟨3, ![4096, 56, 64]⟩
abbrev S4096x56x12 : Shape := ⟨3, ![4096, 56, 12]⟩
abbrev S4096x56 : Shape := ⟨2, ![4096, 56]⟩
abbrev S9216x4096 : Shape := ⟨2, ![9216, 4096]⟩
abbrev S56x32x4096 : Shape := ⟨3, ![56, 32, 4096]⟩
abbrev S56x64x4096 : Shape := ⟨3, ![56, 64, 4096]⟩
abbrev S12x56x4096 : Shape := ⟨3, ![12, 56, 4096]⟩
abbrev S56x4096 : Shape := ⟨2, ![56, 4096]⟩
abbrev S9216x14336 : Shape := ⟨2, ![9216, 14336]⟩
abbrev S512x4096 : Shape := ⟨2, ![512, 4096]⟩
abbrev S8x32x4096 : Shape := ⟨3, ![8, 32, 4096]⟩
abbrev S8x64x4096 : Shape := ⟨3, ![8, 64, 4096]⟩
abbrev S12x8x4096 : Shape := ⟨3, ![12, 8, 4096]⟩
abbrev S8x4096 : Shape := ⟨2, ![8, 4096]⟩
abbrev S512x2048 : Shape := ⟨2, ![512, 2048]⟩
abbrev S2048x4096 : Shape := ⟨2, ![2048, 4096]⟩
abbrev S16x8x4096 : Shape := ⟨3, ![16, 8, 4096]⟩
abbrev S8x512 : Shape := ⟨2, ![8, 512]⟩
abbrev S1x8x512 : Shape := ⟨3, ![1, 8, 512]⟩
abbrev S1x32x512 : Shape := ⟨3, ![1, 32, 512]⟩
abbrev S32x512 : Shape := ⟨2, ![32, 512]⟩
abbrev S1x1x512 : Shape := ⟨3, ![1, 1, 512]⟩
abbrev S1x512 : Shape := ⟨2, ![1, 512]⟩
abbrev S16x512 : Shape := ⟨2, ![16, 512]⟩

abbrev nBuf : Space → Nat
  | .hbm => 11
  | .vmem => 14
  | .smem => 0
  | _ => 0

abbrev bufTy : (tb : Table) → Fin (tcTables nBuf tb) → BufTy
  | .hbm, ⟨0, _⟩ => ⟨S12x768x4096, .bf16⟩
  | .hbm, ⟨1, _⟩ => ⟨S4096x56x32, .i8⟩
  | .hbm, ⟨2, _⟩ => ⟨S4096x56x64, .i8⟩
  | .hbm, ⟨3, _⟩ => ⟨S4096x56x12, .i8⟩
  | .hbm, ⟨4, _⟩ => ⟨S4096x56, .f16⟩
  | .hbm, ⟨5, _⟩ => ⟨S9216x4096, .bf16⟩
  | .hbm, ⟨6, _⟩ => ⟨S56x32x4096, .i8⟩
  | .hbm, ⟨7, _⟩ => ⟨S56x64x4096, .i8⟩
  | .hbm, ⟨8, _⟩ => ⟨S12x56x4096, .i8⟩
  | .hbm, ⟨9, _⟩ => ⟨S56x4096, .f16⟩
  | .hbm, ⟨10, _⟩ => ⟨S9216x14336, .bf16⟩
  | .local _ .vmem, ⟨0, _⟩ => ⟨S512x4096, .bf16⟩
  | .local _ .vmem, ⟨1, _⟩ => ⟨S512x4096, .bf16⟩
  | .local _ .vmem, ⟨2, _⟩ => ⟨S8x32x4096, .i8⟩
  | .local _ .vmem, ⟨3, _⟩ => ⟨S8x32x4096, .i8⟩
  | .local _ .vmem, ⟨4, _⟩ => ⟨S8x64x4096, .i8⟩
  | .local _ .vmem, ⟨5, _⟩ => ⟨S8x64x4096, .i8⟩
  | .local _ .vmem, ⟨6, _⟩ => ⟨S12x8x4096, .i8⟩
  | .local _ .vmem, ⟨7, _⟩ => ⟨S12x8x4096, .i8⟩
  | .local _ .vmem, ⟨8, _⟩ => ⟨S8x4096, .f16⟩
  | .local _ .vmem, ⟨9, _⟩ => ⟨S8x4096, .f16⟩
  | .local _ .vmem, ⟨10, _⟩ => ⟨S512x2048, .bf16⟩
  | .local _ .vmem, ⟨11, _⟩ => ⟨S512x2048, .bf16⟩
  | .local _ .vmem, ⟨12, _⟩ => ⟨S2048x4096, .bf16⟩
  | .local _ .vmem, ⟨13, _⟩ => ⟨S16x8x4096, .i32⟩
  | _, _ => ⟨S12x768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨2, ![7, 18], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c8_i32 : BitVec 32 := 8#32
  let v9 : BitVec 32 := Scalar.addi c0_i32_6 c8_i32
  let c1_i32 : BitVec 32 := 1#32
  ⟨c0_i32_6, v9, c1_i32⟩
def k0_mult1 (k0_t1 : Fin k0_t1_loop.trips) : BitVec 32 :=
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  v11
def k0_off1 (k0_t1 : Fin k0_t1_loop.trips) : Fin 2 → Nat :=
  let c0_11 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v13 : Index := Scalar.indexCast v12
  ![0, v13.toNat]
def k0_off2 (k0_t1 : Fin k0_t1_loop.trips) : Fin 3 → Nat :=
  let c0_12 : Index := 0#32
  let c0_13 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v17 : Index := Scalar.indexCast v12
  ![0, 0, v17.toNat]
def k0_off3 (k0_t1 : Fin k0_t1_loop.trips) : Fin 3 → Nat :=
  let c1 : Index := 1#32
  let c0_14 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v21 : Index := Scalar.indexCast v12
  ![1, 0, v21.toNat]
def k0_off4 (k0_t1 : Fin k0_t1_loop.trips) : Fin 3 → Nat :=
  let c2 : Index := 2#32
  let c0_15 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v25 : Index := Scalar.indexCast v12
  ![2, 0, v25.toNat]
def k0_off5 (k0_t1 : Fin k0_t1_loop.trips) : Fin 3 → Nat :=
  let c3 : Index := 3#32
  let c0_16 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v29 : Index := Scalar.indexCast v12
  ![3, 0, v29.toNat]
def k0_off6 (k0_t1 : Fin k0_t1_loop.trips) : Fin 3 → Nat :=
  let c4 : Index := 4#32
  let c0_17 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v33 : Index := Scalar.indexCast v12
  ![4, 0, v33.toNat]
def k0_off7 (k0_t1 : Fin k0_t1_loop.trips) : Fin 3 → Nat :=
  let c5 : Index := 5#32
  let c0_18 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v37 : Index := Scalar.indexCast v12
  ![5, 0, v37.toNat]
def k0_off8 (k0_t1 : Fin k0_t1_loop.trips) : Fin 3 → Nat :=
  let c6 : Index := 6#32
  let c0_19 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v41 : Index := Scalar.indexCast v12
  ![6, 0, v41.toNat]
def k0_off9 (k0_t1 : Fin k0_t1_loop.trips) : Fin 3 → Nat :=
  let c7 : Index := 7#32
  let c0_20 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v45 : Index := Scalar.indexCast v12
  ![7, 0, v45.toNat]
def k0_off10 (k0_t1 : Fin k0_t1_loop.trips) : Fin 3 → Nat :=
  let c8 : Index := 8#32
  let c0_21 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v49 : Index := Scalar.indexCast v12
  ![8, 0, v49.toNat]
def k0_off11 (k0_t1 : Fin k0_t1_loop.trips) : Fin 3 → Nat :=
  let c9 : Index := 9#32
  let c0_22 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v53 : Index := Scalar.indexCast v12
  ![9, 0, v53.toNat]
def k0_off12 (k0_t1 : Fin k0_t1_loop.trips) : Fin 3 → Nat :=
  let c10 : Index := 10#32
  let c0_23 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v57 : Index := Scalar.indexCast v12
  ![10, 0, v57.toNat]
def k0_off13 (k0_t1 : Fin k0_t1_loop.trips) : Fin 3 → Nat :=
  let c11 : Index := 11#32
  let c0_24 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v61 : Index := Scalar.indexCast v12
  ![11, 0, v61.toNat]
def k0_off14 (k0_t1 : Fin k0_t1_loop.trips) : Fin 3 → Nat :=
  let c0_27 : Index := 0#32
  let c0_28 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v81 : Index := Scalar.indexCast v12
  ![0, 0, v81.toNat]
def k0_off15 (k0_t1 : Fin k0_t1_loop.trips) : Fin 3 → Nat :=
  let c1_35 : Index := 1#32
  let c0_36 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v101 : Index := Scalar.indexCast v12
  ![1, 0, v101.toNat]
def k0_off16 (k0_t1 : Fin k0_t1_loop.trips) : Fin 3 → Nat :=
  let c2_43 : Index := 2#32
  let c0_44 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v121 : Index := Scalar.indexCast v12
  ![2, 0, v121.toNat]
def k0_off17 (k0_t1 : Fin k0_t1_loop.trips) : Fin 3 → Nat :=
  let c3_51 : Index := 3#32
  let c0_52 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v141 : Index := Scalar.indexCast v12
  ![3, 0, v141.toNat]
def k0_off18 (k0_t1 : Fin k0_t1_loop.trips) : Fin 3 → Nat :=
  let c4_58 : Index := 4#32
  let c0_59 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v161 : Index := Scalar.indexCast v12
  ![4, 0, v161.toNat]
def k0_off19 (k0_t1 : Fin k0_t1_loop.trips) : Fin 3 → Nat :=
  let c5_66 : Index := 5#32
  let c0_67 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v181 : Index := Scalar.indexCast v12
  ![5, 0, v181.toNat]
def k0_off20 (k0_t1 : Fin k0_t1_loop.trips) : Fin 3 → Nat :=
  let c6_74 : Index := 6#32
  let c0_75 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v201 : Index := Scalar.indexCast v12
  ![6, 0, v201.toNat]
def k0_off21 (k0_t1 : Fin k0_t1_loop.trips) : Fin 3 → Nat :=
  let c7_82 : Index := 7#32
  let c0_83 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v221 : Index := Scalar.indexCast v12
  ![7, 0, v221.toNat]
def k0_off22 (k0_t1 : Fin k0_t1_loop.trips) : Fin 3 → Nat :=
  let c8_90 : Index := 8#32
  let c0_91 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v241 : Index := Scalar.indexCast v12
  ![8, 0, v241.toNat]
def k0_off23 (k0_t1 : Fin k0_t1_loop.trips) : Fin 3 → Nat :=
  let c9_98 : Index := 9#32
  let c0_99 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v261 : Index := Scalar.indexCast v12
  ![9, 0, v261.toNat]
def k0_off24 (k0_t1 : Fin k0_t1_loop.trips) : Fin 3 → Nat :=
  let c10_106 : Index := 10#32
  let c0_107 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v281 : Index := Scalar.indexCast v12
  ![10, 0, v281.toNat]
def k0_off25 (k0_t1 : Fin k0_t1_loop.trips) : Fin 3 → Nat :=
  let c11_114 : Index := 11#32
  let c0_115 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v301 : Index := Scalar.indexCast v12
  ![11, 0, v301.toNat]
def k0_off26 (k0_t1 : Fin k0_t1_loop.trips) : Fin 3 → Nat :=
  let c12 : Index := 12#32
  let c0_121 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v321 : Index := Scalar.indexCast v12
  ![12, 0, v321.toNat]
def k0_off27 (k0_t1 : Fin k0_t1_loop.trips) : Fin 3 → Nat :=
  let c13 : Index := 13#32
  let c0_128 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v341 : Index := Scalar.indexCast v12
  ![13, 0, v341.toNat]
def k0_off28 (k0_t1 : Fin k0_t1_loop.trips) : Fin 3 → Nat :=
  let c14 : Index := 14#32
  let c0_135 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v361 : Index := Scalar.indexCast v12
  ![14, 0, v361.toNat]
def k0_off29 (k0_t1 : Fin k0_t1_loop.trips) : Fin 3 → Nat :=
  let c15 : Index := 15#32
  let c0_142 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v381 : Index := Scalar.indexCast v12
  ![15, 0, v381.toNat]
@[reducible] def k0_t2_loop : Scf.Loop 32 :=
  let c0_i32_8 : BitVec 32 := 0#32
  let c64_i32 : BitVec 32 := 64#32
  let v10 : BitVec 32 := Scalar.addi c0_i32_8 c64_i32
  let c1_i32_9 : BitVec 32 := 1#32
  ⟨c0_i32_8, v10, c1_i32_9⟩
def k0_mult2 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  v38
def k0_off30 (k0_t2 : Fin k0_t2_loop.trips) : Fin 3 → Nat :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v40 : Index := Scalar.indexCast v27
  let c0_24 : Index := 0#32
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v41 : Index := Scalar.indexCast v39
  ![v40.toNat, 0, v41.toNat]
def k0_off31 (k0_t2 : Fin k0_t2_loop.trips) : Fin 3 → Nat :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v45 : Index := Scalar.indexCast v27
  let c0_25 : Index := 0#32
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v46 : Index := Scalar.indexCast v39
  ![v45.toNat, 0, v46.toNat]
def k0_off32 (k0_t2 : Fin k0_t2_loop.trips) : Fin 3 → Nat :=
  let c0_28 : Index := 0#32
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v63 : Index := Scalar.indexCast v27
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v64 : Index := Scalar.indexCast v39
  ![0, v63.toNat, v64.toNat]
def k0_mult3 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let c256_i32 : BitVec 32 := 256#32
  let v68 : BitVec 32 := Scalar.muli v27 c256_i32
  let c0_i32_29 : BitVec 32 := 0#32
  let v69 : BitVec 32 := Scalar.addi v68 c0_i32_29
  v69
def k0_off33 (k0_t2 : Fin k0_t2_loop.trips) (c0_i32_29 : BitVec 32) : Fin 2 → Nat :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let c256_i32 : BitVec 32 := 256#32
  let v68 : BitVec 32 := Scalar.muli v27 c256_i32
  let v69 : BitVec 32 := Scalar.addi v68 c0_i32_29
  let v70 : BitVec 32 := v69
  let v74 : Index := Scalar.indexCast v70
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v75 : Index := Scalar.indexCast v39
  ![v74.toNat, v75.toNat]
def k0_off34 (k0_t2 : Fin k0_t2_loop.trips) : Fin 3 → Nat :=
  let c1 : Index := 1#32
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v79 : Index := Scalar.indexCast v27
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v80 : Index := Scalar.indexCast v39
  ![1, v79.toNat, v80.toNat]
def k0_mult4 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let c256_i32_30 : BitVec 32 := 256#32
  let v84 : BitVec 32 := Scalar.muli v27 c256_i32_30
  let c16_i32 : BitVec 32 := 16#32
  let v85 : BitVec 32 := Scalar.addi v84 c16_i32
  v85
def k0_off35 (k0_t2 : Fin k0_t2_loop.trips) : Fin 3 → Nat :=
  let c2 : Index := 2#32
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v108 : Index := Scalar.indexCast v27
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v109 : Index := Scalar.indexCast v39
  ![2, v108.toNat, v109.toNat]
def k0_mult5 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let c256_i32_36 : BitVec 32 := 256#32
  let v113 : BitVec 32 := Scalar.muli v27 c256_i32_36
  let c32_i32 : BitVec 32 := 32#32
  let v114 : BitVec 32 := Scalar.addi v113 c32_i32
  v114
def k0_off36 (k0_t2 : Fin k0_t2_loop.trips) : Fin 3 → Nat :=
  let c3 : Index := 3#32
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v124 : Index := Scalar.indexCast v27
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v125 : Index := Scalar.indexCast v39
  ![3, v124.toNat, v125.toNat]
def k0_mult6 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let c256_i32_37 : BitVec 32 := 256#32
  let v129 : BitVec 32 := Scalar.muli v27 c256_i32_37
  let c48_i32 : BitVec 32 := 48#32
  let v130 : BitVec 32 := Scalar.addi v129 c48_i32
  v130
def k0_off37 (k0_t2 : Fin k0_t2_loop.trips) : Fin 3 → Nat :=
  let c4 : Index := 4#32
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v153 : Index := Scalar.indexCast v27
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v154 : Index := Scalar.indexCast v39
  ![4, v153.toNat, v154.toNat]
def k0_mult7 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let c256_i32_42 : BitVec 32 := 256#32
  let v158 : BitVec 32 := Scalar.muli v27 c256_i32_42
  let c64_i32_43 : BitVec 32 := 64#32
  let v159 : BitVec 32 := Scalar.addi v158 c64_i32_43
  v159
def k0_off38 (k0_t2 : Fin k0_t2_loop.trips) : Fin 3 → Nat :=
  let c5 : Index := 5#32
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v169 : Index := Scalar.indexCast v27
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v170 : Index := Scalar.indexCast v39
  ![5, v169.toNat, v170.toNat]
def k0_mult8 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let c256_i32_44 : BitVec 32 := 256#32
  let v174 : BitVec 32 := Scalar.muli v27 c256_i32_44
  let c80_i32 : BitVec 32 := 80#32
  let v175 : BitVec 32 := Scalar.addi v174 c80_i32
  v175
def k0_off39 (k0_t2 : Fin k0_t2_loop.trips) : Fin 3 → Nat :=
  let c6 : Index := 6#32
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v198 : Index := Scalar.indexCast v27
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v199 : Index := Scalar.indexCast v39
  ![6, v198.toNat, v199.toNat]
def k0_mult9 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let c256_i32_49 : BitVec 32 := 256#32
  let v203 : BitVec 32 := Scalar.muli v27 c256_i32_49
  let c96_i32 : BitVec 32 := 96#32
  let v204 : BitVec 32 := Scalar.addi v203 c96_i32
  v204
def k0_off40 (k0_t2 : Fin k0_t2_loop.trips) : Fin 3 → Nat :=
  let c7 : Index := 7#32
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v214 : Index := Scalar.indexCast v27
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v215 : Index := Scalar.indexCast v39
  ![7, v214.toNat, v215.toNat]
def k0_mult10 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let c256_i32_50 : BitVec 32 := 256#32
  let v219 : BitVec 32 := Scalar.muli v27 c256_i32_50
  let c112_i32 : BitVec 32 := 112#32
  let v220 : BitVec 32 := Scalar.addi v219 c112_i32
  v220
def k0_off41 (k0_t2 : Fin k0_t2_loop.trips) : Fin 3 → Nat :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v230 : Index := Scalar.indexCast v27
  let c32 : Index := 32#32
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v231 : Index := Scalar.indexCast v39
  ![v230.toNat, 32, v231.toNat]
def k0_off42 (k0_t2 : Fin k0_t2_loop.trips) : Fin 3 → Nat :=
  let c8 : Index := 8#32
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v248 : Index := Scalar.indexCast v27
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v249 : Index := Scalar.indexCast v39
  ![8, v248.toNat, v249.toNat]
def k0_mult11 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let c256_i32_56 : BitVec 32 := 256#32
  let v253 : BitVec 32 := Scalar.muli v27 c256_i32_56
  let c128_i32 : BitVec 32 := 128#32
  let v254 : BitVec 32 := Scalar.addi v253 c128_i32
  v254
def k0_off43 (k0_t2 : Fin k0_t2_loop.trips) : Fin 3 → Nat :=
  let c9 : Index := 9#32
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v264 : Index := Scalar.indexCast v27
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v265 : Index := Scalar.indexCast v39
  ![9, v264.toNat, v265.toNat]
def k0_mult12 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let c256_i32_57 : BitVec 32 := 256#32
  let v269 : BitVec 32 := Scalar.muli v27 c256_i32_57
  let c144_i32 : BitVec 32 := 144#32
  let v270 : BitVec 32 := Scalar.addi v269 c144_i32
  v270
def k0_off44 (k0_t2 : Fin k0_t2_loop.trips) : Fin 3 → Nat :=
  let c10 : Index := 10#32
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v293 : Index := Scalar.indexCast v27
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v294 : Index := Scalar.indexCast v39
  ![10, v293.toNat, v294.toNat]
def k0_mult13 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let c256_i32_62 : BitVec 32 := 256#32
  let v298 : BitVec 32 := Scalar.muli v27 c256_i32_62
  let c160_i32 : BitVec 32 := 160#32
  let v299 : BitVec 32 := Scalar.addi v298 c160_i32
  v299
def k0_off45 (k0_t2 : Fin k0_t2_loop.trips) : Fin 3 → Nat :=
  let c11 : Index := 11#32
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v309 : Index := Scalar.indexCast v27
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v310 : Index := Scalar.indexCast v39
  ![11, v309.toNat, v310.toNat]
def k0_mult14 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let c256_i32_63 : BitVec 32 := 256#32
  let v314 : BitVec 32 := Scalar.muli v27 c256_i32_63
  let c176_i32 : BitVec 32 := 176#32
  let v315 : BitVec 32 := Scalar.addi v314 c176_i32
  v315
def k0_off46 (k0_t2 : Fin k0_t2_loop.trips) : Fin 3 → Nat :=
  let c12 : Index := 12#32
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v338 : Index := Scalar.indexCast v27
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v339 : Index := Scalar.indexCast v39
  ![12, v338.toNat, v339.toNat]
def k0_mult15 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let c256_i32_69 : BitVec 32 := 256#32
  let v343 : BitVec 32 := Scalar.muli v27 c256_i32_69
  let c192_i32 : BitVec 32 := 192#32
  let v344 : BitVec 32 := Scalar.addi v343 c192_i32
  v344
def k0_off47 (k0_t2 : Fin k0_t2_loop.trips) : Fin 3 → Nat :=
  let c13 : Index := 13#32
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v354 : Index := Scalar.indexCast v27
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v355 : Index := Scalar.indexCast v39
  ![13, v354.toNat, v355.toNat]
def k0_mult16 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let c256_i32_70 : BitVec 32 := 256#32
  let v359 : BitVec 32 := Scalar.muli v27 c256_i32_70
  let c208_i32 : BitVec 32 := 208#32
  let v360 : BitVec 32 := Scalar.addi v359 c208_i32
  v360
def k0_off48 (k0_t2 : Fin k0_t2_loop.trips) : Fin 3 → Nat :=
  let c14 : Index := 14#32
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v383 : Index := Scalar.indexCast v27
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v384 : Index := Scalar.indexCast v39
  ![14, v383.toNat, v384.toNat]
def k0_mult17 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let c256_i32_75 : BitVec 32 := 256#32
  let v388 : BitVec 32 := Scalar.muli v27 c256_i32_75
  let c224_i32 : BitVec 32 := 224#32
  let v389 : BitVec 32 := Scalar.addi v388 c224_i32
  v389
def k0_off49 (k0_t2 : Fin k0_t2_loop.trips) : Fin 3 → Nat :=
  let c15 : Index := 15#32
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v399 : Index := Scalar.indexCast v27
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v400 : Index := Scalar.indexCast v39
  ![15, v399.toNat, v400.toNat]
def k0_mult18 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let c256_i32_76 : BitVec 32 := 256#32
  let v404 : BitVec 32 := Scalar.muli v27 c256_i32_76
  let c240_i32 : BitVec 32 := 240#32
  let v405 : BitVec 32 := Scalar.addi v404 c240_i32
  v405
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x32x4096 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x64x4096 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S12x8x4096 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x4096 .f16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
abbrev S12x768x4096 : Shape := ⟨3, ![12, 768, 4096]⟩
abbrev S4096x56x32 : Shape := ⟨3, ![4096, 56, 32]⟩
abbrev S4096x56x64 : Shape := ⟨3, ![4096, 56, 64]⟩
abbrev S4096x56x12 : Shape := ⟨3, ![4096, 56, 12]⟩
abbrev S4096x56 : Shape := ⟨2, ![4096, 56]⟩
abbrev S9216x4096 : Shape := ⟨2, ![9216, 4096]⟩
abbrev S56x32x4096 : Shape := ⟨3, ![56, 32, 4096]⟩
abbrev S56x64x4096 : Shape := ⟨3, ![56, 64, 4096]⟩
abbrev S12x56x4096 : Shape := ⟨3, ![12, 56, 4096]⟩
abbrev S56x4096 : Shape := ⟨2, ![56, 4096]⟩
abbrev S9216x14336 : Shape := ⟨2, ![9216, 14336]⟩
abbrev S512x4096 : Shape := ⟨2, ![512, 4096]⟩
abbrev S8x32x4096 : Shape := ⟨3, ![8, 32, 4096]⟩
abbrev S8x64x4096 : Shape := ⟨3, ![8, 64, 4096]⟩
abbrev S12x8x4096 : Shape := ⟨3, ![12, 8, 4096]⟩
abbrev S8x4096 : Shape := ⟨2, ![8, 4096]⟩
abbrev S512x2048 : Shape := ⟨2, ![512, 2048]⟩
abbrev S2048x4096 : Shape := ⟨2, ![2048, 4096]⟩
abbrev S16x8x4096 : Shape := ⟨3, ![16, 8, 4096]⟩
abbrev S16x8x2x4096 : Shape := ⟨4, ![16, 8, 2, 4096]⟩
abbrev S16x8x1x4096 : Shape := ⟨4, ![16, 8, 1, 4096]⟩
abbrev S8x512 : Shape := ⟨2, ![8, 512]⟩
abbrev S1x8x512 : Shape := ⟨3, ![1, 8, 512]⟩
abbrev S1x8x2x512 : Shape := ⟨4, ![1, 8, 2, 512]⟩
abbrev S1x8x1x512 : Shape := ⟨4, ![1, 8, 1, 512]⟩
abbrev S1x32x512 : Shape := ⟨3, ![1, 32, 512]⟩
abbrev S32x512 : Shape := ⟨2, ![32, 512]⟩
abbrev S1x1x512 : Shape := ⟨3, ![1, 1, 512]⟩
abbrev S1x1x2x512 : Shape := ⟨4, ![1, 1, 2, 512]⟩
abbrev S1x1x1x512 : Shape := ⟨4, ![1, 1, 1, 512]⟩
abbrev S1x512 : Shape := ⟨2, ![1, 512]⟩
abbrev S16x512 : Shape := ⟨2, ![16, 512]⟩

abbrev nBuf : Space → Nat
  | .hbm => 11
  | .vmem => 14
  | .smem => 0
  | _ => 0

abbrev bufTy : (tb : Table) → Fin (tcTables nBuf tb) → BufTy
  | .hbm, ⟨0, _⟩ => ⟨S12x768x4096, .bf16⟩
  | .hbm, ⟨1, _⟩ => ⟨S4096x56x32, .i8⟩
  | .hbm, ⟨2, _⟩ => ⟨S4096x56x64, .i8⟩
  | .hbm, ⟨3, _⟩ => ⟨S4096x56x12, .i8⟩
  | .hbm, ⟨4, _⟩ => ⟨S4096x56, .f16⟩
  | .hbm, ⟨5, _⟩ => ⟨S9216x4096, .bf16⟩
  | .hbm, ⟨6, _⟩ => ⟨S56x32x4096, .i8⟩
  | .hbm, ⟨7, _⟩ => ⟨S56x64x4096, .i8⟩
  | .hbm, ⟨8, _⟩ => ⟨S12x56x4096, .i8⟩
  | .hbm, ⟨9, _⟩ => ⟨S56x4096, .f16⟩
  | .hbm, ⟨10, _⟩ => ⟨S9216x14336, .bf16⟩
  | .local _ .vmem, ⟨0, _⟩ => ⟨S512x4096, .bf16⟩
  | .local _ .vmem, ⟨1, _⟩ => ⟨S512x4096, .bf16⟩
  | .local _ .vmem, ⟨2, _⟩ => ⟨S8x32x4096, .i8⟩
  | .local _ .vmem, ⟨3, _⟩ => ⟨S8x32x4096, .i8⟩
  | .local _ .vmem, ⟨4, _⟩ => ⟨S8x64x4096, .i8⟩
  | .local _ .vmem, ⟨5, _⟩ => ⟨S8x64x4096, .i8⟩
  | .local _ .vmem, ⟨6, _⟩ => ⟨S12x8x4096, .i8⟩
  | .local _ .vmem, ⟨7, _⟩ => ⟨S12x8x4096, .i8⟩
  | .local _ .vmem, ⟨8, _⟩ => ⟨S8x4096, .f16⟩
  | .local _ .vmem, ⟨9, _⟩ => ⟨S8x4096, .f16⟩
  | .local _ .vmem, ⟨10, _⟩ => ⟨S512x2048, .bf16⟩
  | .local _ .vmem, ⟨11, _⟩ => ⟨S512x2048, .bf16⟩
  | .local _ .vmem, ⟨12, _⟩ => ⟨S2048x4096, .bf16⟩
  | .local _ .vmem, ⟨13, _⟩ => ⟨S16x8x2x4096, .bf16⟩
  | _, _ => ⟨S12x768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![7, 18], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c8_i32 : BitVec 32 := 8#32
  let v9 : BitVec 32 := Scalar.addi c0_i32_6 c8_i32
  let c1_i32 : BitVec 32 := 1#32
  ⟨c0_i32_6, v9, c1_i32⟩
def k0_mult1 (k0_t1 : Fin k0_t1_loop.trips) : BitVec 32 :=
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  v11
def k0_off1 (k0_t1 : Fin k0_t1_loop.trips) : Fin 2 → Nat :=
  let c0_11 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v13 : Index := Scalar.indexCast v12
  ![0, v13.toNat]
def k0_off2 (k0_t1 : Fin k0_t1_loop.trips) : Fin 3 → Nat :=
  let c0_12 : Index := 0#32
  let c0_13 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v17 : Index := Scalar.indexCast v12
  ![0, 0, v17.toNat]
def k0_off3 (k0_t1 : Fin k0_t1_loop.trips) : Fin 3 → Nat :=
  let c1 : Index := 1#32
  let c0_14 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v21 : Index := Scalar.indexCast v12
  ![1, 0, v21.toNat]
def k0_off4 (k0_t1 : Fin k0_t1_loop.trips) : Fin 3 → Nat :=
  let c2 : Index := 2#32
  let c0_15 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v25 : Index := Scalar.indexCast v12
  ![2, 0, v25.toNat]
def k0_off5 (k0_t1 : Fin k0_t1_loop.trips) : Fin 3 → Nat :=
  let c3 : Index := 3#32
  let c0_16 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v29 : Index := Scalar.indexCast v12
  ![3, 0, v29.toNat]
def k0_off6 (k0_t1 : Fin k0_t1_loop.trips) : Fin 3 → Nat :=
  let c4 : Index := 4#32
  let c0_17 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v33 : Index := Scalar.indexCast v12
  ![4, 0, v33.toNat]
def k0_off7 (k0_t1 : Fin k0_t1_loop.trips) : Fin 3 → Nat :=
  let c5 : Index := 5#32
  let c0_18 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v37 : Index := Scalar.indexCast v12
  ![5, 0, v37.toNat]
def k0_off8 (k0_t1 : Fin k0_t1_loop.trips) : Fin 3 → Nat :=
  let c6 : Index := 6#32
  let c0_19 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v41 : Index := Scalar.indexCast v12
  ![6, 0, v41.toNat]
def k0_off9 (k0_t1 : Fin k0_t1_loop.trips) : Fin 3 → Nat :=
  let c7 : Index := 7#32
  let c0_20 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v45 : Index := Scalar.indexCast v12
  ![7, 0, v45.toNat]
def k0_off10 (k0_t1 : Fin k0_t1_loop.trips) : Fin 3 → Nat :=
  let c8 : Index := 8#32
  let c0_21 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v49 : Index := Scalar.indexCast v12
  ![8, 0, v49.toNat]
def k0_off11 (k0_t1 : Fin k0_t1_loop.trips) : Fin 3 → Nat :=
  let c9 : Index := 9#32
  let c0_22 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v53 : Index := Scalar.indexCast v12
  ![9, 0, v53.toNat]
def k0_off12 (k0_t1 : Fin k0_t1_loop.trips) : Fin 3 → Nat :=
  let c10 : Index := 10#32
  let c0_23 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v57 : Index := Scalar.indexCast v12
  ![10, 0, v57.toNat]
def k0_off13 (k0_t1 : Fin k0_t1_loop.trips) : Fin 3 → Nat :=
  let c11 : Index := 11#32
  let c0_24 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v61 : Index := Scalar.indexCast v12
  ![11, 0, v61.toNat]
def k0_off14 (k0_t1 : Fin k0_t1_loop.trips) : Fin 4 → Nat :=
  let c0_27 : Index := 0#32
  let c0_28 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v81 : Index := Scalar.indexCast v12
  ![0, 0, 0, v81.toNat]
def k0_off15 (k0_t1 : Fin k0_t1_loop.trips) : Fin 4 → Nat :=
  let c1_35 : Index := 1#32
  let c0_36 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v101 : Index := Scalar.indexCast v12
  ![1, 0, 0, v101.toNat]
def k0_off16 (k0_t1 : Fin k0_t1_loop.trips) : Fin 4 → Nat :=
  let c2_43 : Index := 2#32
  let c0_44 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v121 : Index := Scalar.indexCast v12
  ![2, 0, 0, v121.toNat]
def k0_off17 (k0_t1 : Fin k0_t1_loop.trips) : Fin 4 → Nat :=
  let c3_51 : Index := 3#32
  let c0_52 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v141 : Index := Scalar.indexCast v12
  ![3, 0, 0, v141.toNat]
def k0_off18 (k0_t1 : Fin k0_t1_loop.trips) : Fin 4 → Nat :=
  let c4_58 : Index := 4#32
  let c0_59 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v161 : Index := Scalar.indexCast v12
  ![4, 0, 0, v161.toNat]
def k0_off19 (k0_t1 : Fin k0_t1_loop.trips) : Fin 4 → Nat :=
  let c5_66 : Index := 5#32
  let c0_67 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v181 : Index := Scalar.indexCast v12
  ![5, 0, 0, v181.toNat]
def k0_off20 (k0_t1 : Fin k0_t1_loop.trips) : Fin 4 → Nat :=
  let c6_74 : Index := 6#32
  let c0_75 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v201 : Index := Scalar.indexCast v12
  ![6, 0, 0, v201.toNat]
def k0_off21 (k0_t1 : Fin k0_t1_loop.trips) : Fin 4 → Nat :=
  let c7_82 : Index := 7#32
  let c0_83 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v221 : Index := Scalar.indexCast v12
  ![7, 0, 0, v221.toNat]
def k0_off22 (k0_t1 : Fin k0_t1_loop.trips) : Fin 4 → Nat :=
  let c8_90 : Index := 8#32
  let c0_91 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v241 : Index := Scalar.indexCast v12
  ![8, 0, 0, v241.toNat]
def k0_off23 (k0_t1 : Fin k0_t1_loop.trips) : Fin 4 → Nat :=
  let c9_98 : Index := 9#32
  let c0_99 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v261 : Index := Scalar.indexCast v12
  ![9, 0, 0, v261.toNat]
def k0_off24 (k0_t1 : Fin k0_t1_loop.trips) : Fin 4 → Nat :=
  let c10_106 : Index := 10#32
  let c0_107 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v281 : Index := Scalar.indexCast v12
  ![10, 0, 0, v281.toNat]
def k0_off25 (k0_t1 : Fin k0_t1_loop.trips) : Fin 4 → Nat :=
  let c11_114 : Index := 11#32
  let c0_115 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v301 : Index := Scalar.indexCast v12
  ![11, 0, 0, v301.toNat]
def k0_off26 (k0_t1 : Fin k0_t1_loop.trips) : Fin 4 → Nat :=
  let c12 : Index := 12#32
  let c0_121 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v321 : Index := Scalar.indexCast v12
  ![12, 0, 0, v321.toNat]
def k0_off27 (k0_t1 : Fin k0_t1_loop.trips) : Fin 4 → Nat :=
  let c13 : Index := 13#32
  let c0_128 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v341 : Index := Scalar.indexCast v12
  ![13, 0, 0, v341.toNat]
def k0_off28 (k0_t1 : Fin k0_t1_loop.trips) : Fin 4 → Nat :=
  let c14 : Index := 14#32
  let c0_135 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v361 : Index := Scalar.indexCast v12
  ![14, 0, 0, v361.toNat]
def k0_off29 (k0_t1 : Fin k0_t1_loop.trips) : Fin 4 → Nat :=
  let c15 : Index := 15#32
  let c0_142 : Index := 0#32
  let c0_i32_6 : BitVec 32 := 0#32
  let c1_i32 : BitVec 32 := 1#32
  let arg10 : BitVec 32 := Scf.iv c0_i32_6 c1_i32 k0_t1
  let c512_i32 : BitVec 32 := 512#32
  let v11 : BitVec 32 := Scalar.muli arg10 c512_i32
  let v12 : BitVec 32 := v11
  let v381 : Index := Scalar.indexCast v12
  ![15, 0, 0, v381.toNat]
@[reducible] def k0_t2_loop : Scf.Loop 32 :=
  let c0_i32_8 : BitVec 32 := 0#32
  let c64_i32 : BitVec 32 := 64#32
  let v10 : BitVec 32 := Scalar.addi c0_i32_8 c64_i32
  let c1_i32_9 : BitVec 32 := 1#32
  ⟨c0_i32_8, v10, c1_i32_9⟩
def k0_mult2 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  v38
def k0_off30 (k0_t2 : Fin k0_t2_loop.trips) : Fin 3 → Nat :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v40 : Index := Scalar.indexCast v27
  let c0_24 : Index := 0#32
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v41 : Index := Scalar.indexCast v39
  ![v40.toNat, 0, v41.toNat]
def k0_off31 (k0_t2 : Fin k0_t2_loop.trips) : Fin 3 → Nat :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v45 : Index := Scalar.indexCast v27
  let c0_25 : Index := 0#32
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v46 : Index := Scalar.indexCast v39
  ![v45.toNat, 0, v46.toNat]
def k0_off32 (k0_t2 : Fin k0_t2_loop.trips) : Fin 4 → Nat :=
  let c0_28 : Index := 0#32
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v63 : Index := Scalar.indexCast v27
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v64 : Index := Scalar.indexCast v39
  ![0, v63.toNat, 0, v64.toNat]
def k0_mult3 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let c256_i32 : BitVec 32 := 256#32
  let v68 : BitVec 32 := Scalar.muli v27 c256_i32
  let c0_i32_29 : BitVec 32 := 0#32
  let v69 : BitVec 32 := Scalar.addi v68 c0_i32_29
  v69
def k0_off33 (k0_t2 : Fin k0_t2_loop.trips) (c0_i32_29 : BitVec 32) : Fin 2 → Nat :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let c256_i32 : BitVec 32 := 256#32
  let v68 : BitVec 32 := Scalar.muli v27 c256_i32
  let v69 : BitVec 32 := Scalar.addi v68 c0_i32_29
  let v70 : BitVec 32 := v69
  let v74 : Index := Scalar.indexCast v70
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v75 : Index := Scalar.indexCast v39
  ![v74.toNat, v75.toNat]
def k0_off34 (k0_t2 : Fin k0_t2_loop.trips) : Fin 4 → Nat :=
  let c1 : Index := 1#32
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v79 : Index := Scalar.indexCast v27
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v80 : Index := Scalar.indexCast v39
  ![1, v79.toNat, 0, v80.toNat]
def k0_mult4 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let c256_i32_30 : BitVec 32 := 256#32
  let v84 : BitVec 32 := Scalar.muli v27 c256_i32_30
  let c16_i32 : BitVec 32 := 16#32
  let v85 : BitVec 32 := Scalar.addi v84 c16_i32
  v85
def k0_off35 (k0_t2 : Fin k0_t2_loop.trips) : Fin 4 → Nat :=
  let c2 : Index := 2#32
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v108 : Index := Scalar.indexCast v27
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v109 : Index := Scalar.indexCast v39
  ![2, v108.toNat, 0, v109.toNat]
def k0_mult5 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let c256_i32_36 : BitVec 32 := 256#32
  let v113 : BitVec 32 := Scalar.muli v27 c256_i32_36
  let c32_i32 : BitVec 32 := 32#32
  let v114 : BitVec 32 := Scalar.addi v113 c32_i32
  v114
def k0_off36 (k0_t2 : Fin k0_t2_loop.trips) : Fin 4 → Nat :=
  let c3 : Index := 3#32
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v124 : Index := Scalar.indexCast v27
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v125 : Index := Scalar.indexCast v39
  ![3, v124.toNat, 0, v125.toNat]
def k0_mult6 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let c256_i32_37 : BitVec 32 := 256#32
  let v129 : BitVec 32 := Scalar.muli v27 c256_i32_37
  let c48_i32 : BitVec 32 := 48#32
  let v130 : BitVec 32 := Scalar.addi v129 c48_i32
  v130
def k0_off37 (k0_t2 : Fin k0_t2_loop.trips) : Fin 4 → Nat :=
  let c4 : Index := 4#32
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v153 : Index := Scalar.indexCast v27
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v154 : Index := Scalar.indexCast v39
  ![4, v153.toNat, 0, v154.toNat]
def k0_mult7 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let c256_i32_42 : BitVec 32 := 256#32
  let v158 : BitVec 32 := Scalar.muli v27 c256_i32_42
  let c64_i32_43 : BitVec 32 := 64#32
  let v159 : BitVec 32 := Scalar.addi v158 c64_i32_43
  v159
def k0_off38 (k0_t2 : Fin k0_t2_loop.trips) : Fin 4 → Nat :=
  let c5 : Index := 5#32
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v169 : Index := Scalar.indexCast v27
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v170 : Index := Scalar.indexCast v39
  ![5, v169.toNat, 0, v170.toNat]
def k0_mult8 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let c256_i32_44 : BitVec 32 := 256#32
  let v174 : BitVec 32 := Scalar.muli v27 c256_i32_44
  let c80_i32 : BitVec 32 := 80#32
  let v175 : BitVec 32 := Scalar.addi v174 c80_i32
  v175
def k0_off39 (k0_t2 : Fin k0_t2_loop.trips) : Fin 4 → Nat :=
  let c6 : Index := 6#32
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v198 : Index := Scalar.indexCast v27
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v199 : Index := Scalar.indexCast v39
  ![6, v198.toNat, 0, v199.toNat]
def k0_mult9 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let c256_i32_49 : BitVec 32 := 256#32
  let v203 : BitVec 32 := Scalar.muli v27 c256_i32_49
  let c96_i32 : BitVec 32 := 96#32
  let v204 : BitVec 32 := Scalar.addi v203 c96_i32
  v204
def k0_off40 (k0_t2 : Fin k0_t2_loop.trips) : Fin 4 → Nat :=
  let c7 : Index := 7#32
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v214 : Index := Scalar.indexCast v27
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v215 : Index := Scalar.indexCast v39
  ![7, v214.toNat, 0, v215.toNat]
def k0_mult10 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let c256_i32_50 : BitVec 32 := 256#32
  let v219 : BitVec 32 := Scalar.muli v27 c256_i32_50
  let c112_i32 : BitVec 32 := 112#32
  let v220 : BitVec 32 := Scalar.addi v219 c112_i32
  v220
def k0_off41 (k0_t2 : Fin k0_t2_loop.trips) : Fin 3 → Nat :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v230 : Index := Scalar.indexCast v27
  let c32 : Index := 32#32
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v231 : Index := Scalar.indexCast v39
  ![v230.toNat, 32, v231.toNat]
def k0_off42 (k0_t2 : Fin k0_t2_loop.trips) : Fin 4 → Nat :=
  let c8 : Index := 8#32
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v248 : Index := Scalar.indexCast v27
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v249 : Index := Scalar.indexCast v39
  ![8, v248.toNat, 0, v249.toNat]
def k0_mult11 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let c256_i32_56 : BitVec 32 := 256#32
  let v253 : BitVec 32 := Scalar.muli v27 c256_i32_56
  let c128_i32 : BitVec 32 := 128#32
  let v254 : BitVec 32 := Scalar.addi v253 c128_i32
  v254
def k0_off43 (k0_t2 : Fin k0_t2_loop.trips) : Fin 4 → Nat :=
  let c9 : Index := 9#32
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v264 : Index := Scalar.indexCast v27
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v265 : Index := Scalar.indexCast v39
  ![9, v264.toNat, 0, v265.toNat]
def k0_mult12 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let c256_i32_57 : BitVec 32 := 256#32
  let v269 : BitVec 32 := Scalar.muli v27 c256_i32_57
  let c144_i32 : BitVec 32 := 144#32
  let v270 : BitVec 32 := Scalar.addi v269 c144_i32
  v270
def k0_off44 (k0_t2 : Fin k0_t2_loop.trips) : Fin 4 → Nat :=
  let c10 : Index := 10#32
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v293 : Index := Scalar.indexCast v27
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v294 : Index := Scalar.indexCast v39
  ![10, v293.toNat, 0, v294.toNat]
def k0_mult13 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let c256_i32_62 : BitVec 32 := 256#32
  let v298 : BitVec 32 := Scalar.muli v27 c256_i32_62
  let c160_i32 : BitVec 32 := 160#32
  let v299 : BitVec 32 := Scalar.addi v298 c160_i32
  v299
def k0_off45 (k0_t2 : Fin k0_t2_loop.trips) : Fin 4 → Nat :=
  let c11 : Index := 11#32
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v309 : Index := Scalar.indexCast v27
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v310 : Index := Scalar.indexCast v39
  ![11, v309.toNat, 0, v310.toNat]
def k0_mult14 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let c256_i32_63 : BitVec 32 := 256#32
  let v314 : BitVec 32 := Scalar.muli v27 c256_i32_63
  let c176_i32 : BitVec 32 := 176#32
  let v315 : BitVec 32 := Scalar.addi v314 c176_i32
  v315
def k0_off46 (k0_t2 : Fin k0_t2_loop.trips) : Fin 4 → Nat :=
  let c12 : Index := 12#32
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v338 : Index := Scalar.indexCast v27
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v339 : Index := Scalar.indexCast v39
  ![12, v338.toNat, 0, v339.toNat]
def k0_mult15 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let c256_i32_69 : BitVec 32 := 256#32
  let v343 : BitVec 32 := Scalar.muli v27 c256_i32_69
  let c192_i32 : BitVec 32 := 192#32
  let v344 : BitVec 32 := Scalar.addi v343 c192_i32
  v344
def k0_off47 (k0_t2 : Fin k0_t2_loop.trips) : Fin 4 → Nat :=
  let c13 : Index := 13#32
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v354 : Index := Scalar.indexCast v27
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v355 : Index := Scalar.indexCast v39
  ![13, v354.toNat, 0, v355.toNat]
def k0_mult16 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let c256_i32_70 : BitVec 32 := 256#32
  let v359 : BitVec 32 := Scalar.muli v27 c256_i32_70
  let c208_i32 : BitVec 32 := 208#32
  let v360 : BitVec 32 := Scalar.addi v359 c208_i32
  v360
def k0_off48 (k0_t2 : Fin k0_t2_loop.trips) : Fin 4 → Nat :=
  let c14 : Index := 14#32
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v383 : Index := Scalar.indexCast v27
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v384 : Index := Scalar.indexCast v39
  ![14, v383.toNat, 0, v384.toNat]
def k0_mult17 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let c256_i32_75 : BitVec 32 := 256#32
  let v388 : BitVec 32 := Scalar.muli v27 c256_i32_75
  let c224_i32 : BitVec 32 := 224#32
  let v389 : BitVec 32 := Scalar.addi v388 c224_i32
  v389
def k0_off49 (k0_t2 : Fin k0_t2_loop.trips) : Fin 4 → Nat :=
  let c15 : Index := 15#32
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let v399 : Index := Scalar.indexCast v27
  let c8_i32_18 : BitVec 32 := 8#32
  let c0_i32_19 : BitVec 32 := 0#32
  let v28 : BitVec 1 := Scalar.cmpi .eq c8_i32_18 c0_i32_19
  let c1_i32_20 : BitVec 32 := 1#32
  let v29 : BitVec 32 := Scalar.select v28 c1_i32_20 c8_i32_18
  let v30 : BitVec 32 := Scalar.remsi arg10 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c512_i32 : BitVec 32 := 512#32
  let v38 : BitVec 32 := Scalar.muli v37 c512_i32
  let v39 : BitVec 32 := v38
  let v400 : Index := Scalar.indexCast v39
  ![15, v399.toNat, 0, v400.toNat]
def k0_mult18 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c0_i32_12 : BitVec 32 := 0#32
  let v12 : BitVec 1 := Scalar.cmpi .sgt arg10 c0_i32_12
  let v13 : BitVec 32 := Scalar.extui v12
  let c0_i32_13 : BitVec 32 := 0#32
  let v14 : BitVec 1 := Scalar.cmpi .slt arg10 c0_i32_13
  let v15 : BitVec 32 := Scalar.extui v14
  let v16 : BitVec 32 := Scalar.subi v13 v15
  let c8_i32_11 : BitVec 32 := 8#32
  let c0_i32_14 : BitVec 32 := 0#32
  let v17 : BitVec 1 := Scalar.cmpi .sgt c8_i32_11 c0_i32_14
  let v18 : BitVec 32 := Scalar.extui v17
  let c0_i32_15 : BitVec 32 := 0#32
  let v19 : BitVec 1 := Scalar.cmpi .slt c8_i32_11 c0_i32_15
  let v20 : BitVec 32 := Scalar.extui v19
  let v21 : BitVec 32 := Scalar.subi v18 v20
  let v22 : BitVec 1 := Scalar.cmpi .ne v16 v21
  let v23 : BitVec 32 := Scalar.remsi arg10 c8_i32_11
  let c0_i32_16 : BitVec 32 := 0#32
  let v24 : BitVec 1 := Scalar.cmpi .ne v23 c0_i32_16
  let v25 : BitVec 1 := Scalar.andi v22 v24
  let v11 : BitVec 32 := Scalar.divsi arg10 c8_i32_11
  let c1_i32_17 : BitVec 32 := 1#32
  let v26 : BitVec 32 := Scalar.subi v11 c1_i32_17
  let v27 : BitVec 32 := Scalar.select v25 v26 v11
  let c256_i32_76 : BitVec 32 := 256#32
  let v404 : BitVec 32 := Scalar.muli v27 c256_i32_76
  let c240_i32 : BitVec 32 := 240#32
  let v405 : BitVec 32 := Scalar.addi v404 c240_i32
  v405
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x32x4096 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x64x4096 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S12x8x4096 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x4096 .f16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S12x768x4096 : Shape := ⟨3, ![12, 768, 4096]⟩
abbrev S4096x56x32 : Shape := ⟨3, ![4096, 56, 32]⟩
abbrev S4096x56x64 : Shape := ⟨3, ![4096, 56, 64]⟩
abbrev S4096x56x12 : Shape := ⟨3, ![4096, 56, 12]⟩
abbrev S4096x56 : Shape := ⟨2, ![4096, 56]⟩
abbrev S4096x56x8 : Shape := ⟨3, ![4096, 56, 8]⟩
abbrev S_ : Shape := ⟨0, ![]⟩
abbrev S4096x56x16 : Shape := ⟨3, ![4096, 56, 16]⟩
abbrev S4096x56x4 : Shape := ⟨3, ![4096, 56, 4]⟩
abbrev S4096x56x1 : Shape := ⟨3, ![4096, 56, 1]⟩
abbrev S2 : Shape := ⟨1, ![2]⟩
abbrev S2x1x1 : Shape := ⟨3, ![2, 1, 1]⟩
abbrev S4 : Shape := ⟨1, ![4]⟩
abbrev S4x1 : Shape := ⟨2, ![4, 1]⟩
abbrev S4096x56x2x1x32 : Shape := ⟨5, ![4096, 56, 2, 1, 32]⟩
abbrev S1x1x1x4x1 : Shape := ⟨5, ![1, 1, 1, 4, 1]⟩
abbrev S4096x56x2x4x32 : Shape := ⟨5, ![4096, 56, 2, 4, 32]⟩
abbrev S4096x56x1x1x32 : Shape := ⟨5, ![4096, 56, 1, 1, 32]⟩
abbrev S1x4x1 : Shape := ⟨3, ![1, 4, 1]⟩
abbrev S2x4x1 : Shape := ⟨3, ![2, 4, 1]⟩
abbrev S1x1x2x4x1 : Shape := ⟨5, ![1, 1, 2, 4, 1]⟩
abbrev S4096x56x16x16 : Shape := ⟨4, ![4096, 56, 16, 16]⟩
abbrev S4096x56x16x1 : Shape := ⟨4, ![4096, 56, 16, 1]⟩
abbrev S9216x4096 : Shape := ⟨2, ![9216, 4096]⟩
abbrev S4096x14336 : Shape := ⟨2, ![4096, 14336]⟩
abbrev S9216x14336 : Shape := ⟨2, ![9216, 14336]⟩

abbrev nBuf : Space → Nat
  | .hbm => 108
  | .vmem => 2
  | .smem => 0
  | _ => 0

abbrev bufTy : (tb : Table) → Fin (tcTables nBuf tb) → BufTy
  | .hbm, ⟨0, _⟩ => ⟨S12x768x4096, .bf16⟩
  | .hbm, ⟨1, _⟩ => ⟨S4096x56x32, .i8⟩
  | .hbm, ⟨2, _⟩ => ⟨S4096x56x64, .i8⟩
  | .hbm, ⟨3, _⟩ => ⟨S4096x56x12, .i8⟩
  | .hbm, ⟨4, _⟩ => ⟨S4096x56, .f16⟩
  | .hbm, ⟨5, _⟩ => ⟨S4096x56x12, .i32⟩
  | .hbm, ⟨6, _⟩ => ⟨S4096x56x8, .i32⟩
  | .hbm, ⟨7, _⟩ => ⟨S_, .i32⟩
  | .hbm, ⟨8, _⟩ => ⟨S4096x56x8, .i32⟩
  | .hbm, ⟨9, _⟩ => ⟨S4096x56x8, .i32⟩
  | .hbm, ⟨10, _⟩ => ⟨S4096x56x8, .i32⟩
  | .hbm, ⟨11, _⟩ => ⟨S_, .i32⟩
  | .hbm, ⟨12, _⟩ => ⟨S4096x56x8, .i32⟩
  | .hbm, ⟨13, _⟩ => ⟨S4096x56x8, .i32⟩
  | .hbm, ⟨14, _⟩ => ⟨S_, .i32⟩
  | .hbm, ⟨15, _⟩ => ⟨S4096x56x8, .i32⟩
  | .hbm, ⟨16, _⟩ => ⟨S4096x56x8, .i32⟩
  | .hbm, ⟨17, _⟩ => ⟨S4096x56x16, .i32⟩
  | .hbm, ⟨18, _⟩ => ⟨S4096x56x4, .i32⟩
  | .hbm, ⟨19, _⟩ => ⟨S_, .i32⟩
  | .hbm, ⟨20, _⟩ => ⟨S4096x56x4, .i32⟩
  | .hbm, ⟨21, _⟩ => ⟨S4096x56x4, .i32⟩
  | .hbm, ⟨22, _⟩ => ⟨S_, .i32⟩
  | .hbm, ⟨23, _⟩ => ⟨S4096x56x4, .i32⟩
  | .hbm, ⟨24, _⟩ => ⟨S4096x56x4, .i32⟩
  | .hbm, ⟨25, _⟩ => ⟨S4096x56x4, .i32⟩
  | .hbm, ⟨26, _⟩ => ⟨S_, .i32⟩
  | .hbm, ⟨27, _⟩ => ⟨S4096x56x4, .i32⟩
  | .hbm, ⟨28, _⟩ => ⟨S4096x56x4, .i32⟩
  | .hbm, ⟨29, _⟩ => ⟨S_, .i32⟩
  | .hbm, ⟨30, _⟩ => ⟨S4096x56x4, .i32⟩
  | .hbm, ⟨31, _⟩ => ⟨S4096x56x4, .i32⟩
  | .hbm, ⟨32, _⟩ => ⟨S4096x56x4, .i32⟩
  | .hbm, ⟨33, _⟩ => ⟨S_, .i32⟩
  | .hbm, ⟨34, _⟩ => ⟨S4096x56x4, .i32⟩
  | .hbm, ⟨35, _⟩ => ⟨S4096x56x4, .i32⟩
  | .hbm, ⟨36, _⟩ => ⟨S_, .i32⟩
  | .hbm, ⟨37, _⟩ => ⟨S4096x56x4, .i32⟩
  | .hbm, ⟨38, _⟩ => ⟨S4096x56x4, .i32⟩
  | .hbm, ⟨39, _⟩ => ⟨S4096x56x4, .i32⟩
  | .hbm, ⟨40, _⟩ => ⟨S_, .i32⟩
  | .hbm, ⟨41, _⟩ => ⟨S4096x56x4, .i32⟩
  | .hbm, ⟨42, _⟩ => ⟨S4096x56x4, .i32⟩
  | .hbm, ⟨43, _⟩ => ⟨S_, .i32⟩
  | .hbm, ⟨44, _⟩ => ⟨S4096x56x4, .i32⟩
  | .hbm, ⟨45, _⟩ => ⟨S4096x56x4, .i32⟩
  | .hbm, ⟨46, _⟩ => ⟨S4096x56x16, .i32⟩
  | .hbm, ⟨47, _⟩ => ⟨S_, .i32⟩
  | .hbm, ⟨48, _⟩ => ⟨S4096x56x16, .i32⟩
  | .hbm, ⟨49, _⟩ => ⟨S4096x56x16, .i32⟩
  | .hbm, ⟨50, _⟩ => ⟨S4096x56x16, .i32⟩
  | .hbm, ⟨51, _⟩ => ⟨S4096x56, .f32⟩
  | .hbm, ⟨52, _⟩ => ⟨S4096x56x1, .f32⟩
  | .hbm, ⟨53, _⟩ => ⟨S_, .i32⟩
  | .hbm, ⟨54, _⟩ => ⟨S4096x56x16, .i32⟩
  | .hbm, ⟨55, _⟩ => ⟨S4096x56x16, .i32⟩
  | .hbm, ⟨56, _⟩ => ⟨S4096x56x16, .f32⟩
  | .hbm, ⟨57, _⟩ => ⟨S4096x56x16, .f32⟩
  | .hbm, ⟨58, _⟩ => ⟨S4096x56x16, .f32⟩
  | .hbm, ⟨59, _⟩ => ⟨S4096x56x16, .bf16⟩
  | .hbm, ⟨60, _⟩ => ⟨S2, .i32⟩
  | .hbm, ⟨61, _⟩ => ⟨S2x1x1, .i32⟩
  | .hbm, ⟨62, _⟩ => ⟨S4, .i32⟩
  | .hbm, ⟨63, _⟩ => ⟨S4x1, .i32⟩
  | .hbm, ⟨64, _⟩ => ⟨S4096x56x64, .i32⟩
  | .hbm, ⟨65, _⟩ => ⟨S4096x56x2x1x32, .i32⟩
  | .hbm, ⟨66, _⟩ => ⟨S_, .i32⟩
  | .hbm, ⟨67, _⟩ => ⟨S4x1, .i32⟩
  | .hbm, ⟨68, _⟩ => ⟨S4x1, .i32⟩
  | .hbm, ⟨69, _⟩ => ⟨S1x1x1x4x1, .i32⟩
  | .hbm, ⟨70, _⟩ => ⟨S4096x56x2x4x32, .i32⟩
  | .hbm, ⟨71, _⟩ => ⟨S4096x56x2x4x32, .i32⟩
  | .hbm, ⟨72, _⟩ => ⟨S4096x56x2x4x32, .i32⟩
  | .hbm, ⟨73, _⟩ => ⟨S_, .i32⟩
  | .hbm, ⟨74, _⟩ => ⟨S4096x56x2x4x32, .i32⟩
  | .hbm, ⟨75, _⟩ => ⟨S4096x56x2x4x32, .i32⟩
  | .hbm, ⟨76, _⟩ => ⟨S4096x56x32, .i32⟩
  | .hbm, ⟨77, _⟩ => ⟨S4096x56x1x1x32, .i32⟩
  | .hbm, ⟨78, _⟩ => ⟨S_, .i32⟩
  | .hbm, ⟨79, _⟩ => ⟨S2x1x1, .i32⟩
  | .hbm, ⟨80, _⟩ => ⟨S2x1x1, .i32⟩
  | .hbm, ⟨81, _⟩ => ⟨S1x4x1, .i32⟩
  | .hbm, ⟨82, _⟩ => ⟨S2x4x1, .i32⟩
  | .hbm, ⟨83, _⟩ => ⟨S2x4x1, .i32⟩
  | .hbm, ⟨84, _⟩ => ⟨S2x4x1, .i32⟩
  | .hbm, ⟨85, _⟩ => ⟨S1x1x2x4x1, .i32⟩
  | .hbm, ⟨86, _⟩ => ⟨S4096x56x2x4x32, .i32⟩
  | .hbm, ⟨87, _⟩ => ⟨S4096x56x2x4x32, .i32⟩
  | .hbm, ⟨88, _⟩ => ⟨S4096x56x2x4x32, .i32⟩
  | .hbm, ⟨89, _⟩ => ⟨S_, .i32⟩
  | .hbm, ⟨90, _⟩ => ⟨S4096x56x2x4x32, .i32⟩
  | .hbm, ⟨91, _⟩ => ⟨S4096x56x2x4x32, .i32⟩
  | .hbm, ⟨92, _⟩ => ⟨S_, .i32⟩
  | .hbm, ⟨93, _⟩ => ⟨S4096x56x2x4x32, .i32⟩
  | .hbm, ⟨94, _⟩ => ⟨S4096x56x2x4x32, .i32⟩
  | .hbm, ⟨95, _⟩ => ⟨S4096x56x2x4x32, .i32⟩
  | .hbm, ⟨96, _⟩ => ⟨S_, .i32⟩
  | .hbm, ⟨97, _⟩ => ⟨S4096x56x2x4x32, .i32⟩
  | .hbm, ⟨98, _⟩ => ⟨S4096x56x2x4x32, .i32⟩
  | .hbm, ⟨99, _⟩ => ⟨S4096x56x2x4x32, .bf16⟩
  | .hbm, ⟨100, _⟩ => ⟨S4096x56x16x16, .bf16⟩
  | .hbm, ⟨101, _⟩ => ⟨S4096x56x16x1, .bf16⟩
  | .hbm, ⟨102, _⟩ => ⟨S4096x56x16x16, .bf16⟩
  | .hbm, ⟨103, _⟩ => ⟨S4096x56x16x16, .bf16⟩
  | .hbm, ⟨104, _⟩ => ⟨S9216x4096, .bf16⟩
  | .hbm, ⟨105, _⟩ => ⟨S4096x14336, .bf16⟩
  | .hbm, ⟨106, _⟩ => ⟨S9216x14336, .f32⟩
  | .hbm, ⟨107, _⟩ => ⟨S9216x14336, .bf16⟩
  | .local _ .vmem, ⟨0, _⟩ => ⟨S4096x56, .f16⟩
  | .local _ .vmem, ⟨1, _⟩ => ⟨S4096x56, .f32⟩
  | _, _ => ⟨S12x768x4096, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_c_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_6 : Ref sig .tc := ⟨.hbm, 33, rfl⟩
abbrev main_v21 : Ref sig .tc := ⟨.hbm, 34, rfl⟩
abbrev main_v22 : Ref sig .tc := ⟨.hbm, 35, rfl⟩
abbrev main_c_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_8 : Ref sig .tc := ⟨.hbm, 40, rfl⟩
abbrev main_v26 : Ref sig .tc := ⟨.hbm, 41, rfl⟩
abbrev main_v27 : Ref sig .tc := ⟨.hbm, 42, rfl⟩
abbrev main_c_9 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_12 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_13 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_14 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_c_15 : Ref sig .tc := ⟨.hbm, 89, rfl⟩
abbrev main_v68 : Ref sig .tc := ⟨.hbm, 90, rfl⟩
abbrev main_v69 : Ref sig .tc := ⟨.hbm, 91, rfl⟩
abbrev main_c_16 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_17 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x56 .f16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x56 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KClosed.lean ====
/- The offsets at which the dequantisation loop of `Kernel` reads and writes, in closed form.

Trip `t` of that loop works on block `t / 8` of the stripe and on the lanes `512 * (t % 8) …`. -/
module

public import proofs.«01_k».proof.Proof.Gen.Kernel
public import Idealize.ShloMosaic.Lib.Exec
public import Idealize.ShloMosaic.Lib.Decide

@[expose] public section

set_option Elab.async false

namespace Cert.Kernel.Hand

open Idealize.ShloMosaic Idealize.SL.Sem
open Cert.Kernel Cert.Kernel.Gen

/-- Where a trip reads the high bits. -/
theorem k0_off30_eq : ∀ t : Fin k0_t2_loop.trips, k0_off30 t = ![(t.val / 8), 0, 512 * (t.val % 8)] := by decide +kernel
instance closedOff_k0_off30 (t : Fin k0_t2_loop.trips) : ClosedOff (k0_off30 t) := ⟨![(t.val / 8), 0, 512 * (t.val % 8)], k0_off30_eq t⟩
/-- Where a trip reads the low bits of the first half. -/
theorem k0_off31_eq : ∀ t : Fin k0_t2_loop.trips, k0_off31 t = ![(t.val / 8), 0, 512 * (t.val % 8)] := by decide +kernel
instance closedOff_k0_off31 (t : Fin k0_t2_loop.trips) : ClosedOff (k0_off31 t) := ⟨![(t.val / 8), 0, 512 * (t.val % 8)], k0_off31_eq t⟩
/-- Where a trip reads the low bits of the second half. -/
theorem k0_off41_eq : ∀ t : Fin k0_t2_loop.trips, k0_off41 t = ![(t.val / 8), 32, 512 * (t.val % 8)] := by decide +kernel
instance closedOff_k0_off41 (t : Fin k0_t2_loop.trips) : ClosedOff (k0_off41 t) := ⟨![(t.val / 8), 32, 512 * (t.val % 8)], k0_off41_eq t⟩
/-- Where a trip reads the scale of group 0. -/
theorem k0_off32_eq : ∀ t : Fin k0_t2_loop.trips, k0_off32 t = ![0, (t.val / 8), 512 * (t.val % 8)] := by decide +kernel
instance closedOff_k0_off32 (t : Fin k0_t2_loop.trips) : ClosedOff (k0_off32 t) := ⟨![0, (t.val / 8), 512 * (t.val % 8)], k0_off32_eq t⟩
/-- Where a trip reads the scale of group 1. -/
theorem k0_off34_eq : ∀ t : Fin k0_t2_loop.trips, k0_off34 t = ![1, (t.val / 8), 512 * (t.val % 8)] := by decide +kernel
instance closedOff_k0_off34 (t : Fin k0_t2_loop.trips) : ClosedOff (k0_off34 t) := ⟨![1, (t.val / 8), 512 * (t.val % 8)], k0_off34_eq t⟩
/-- Where a trip reads the scale of group 2. -/
theorem k0_off35_eq : ∀ t : Fin k0_t2_loop.trips, k0_off35 t = ![2, (t.val / 8), 512 * (t.val % 8)] := by decide +kernel
instance closedOff_k0_off35 (t : Fin k0_t2_loop.trips) : ClosedOff (k0_off35 t) := ⟨![2, (t.val / 8), 512 * (t.val % 8)], k0_off35_eq t⟩
/-- Where a trip reads the scale of group 3. -/
theorem k0_off36_eq : ∀ t : Fin k0_t2_loop.trips, k0_off36 t = ![3, (t.val / 8), 512 * (t.val % 8)] := by decide +kernel
instance closedOff_k0_off36 (t : Fin k0_t2_loop.trips) : ClosedOff (k0_off36 t) := ⟨![3, (t.val / 8), 512 * (t.val % 8)], k0_off36_eq t⟩
/-- Where a trip reads the scale of group 4. -/
theorem k0_off37_eq : ∀ t : Fin k0_t2_loop.trips, k0_off37 t = ![4, (t.val / 8), 512 * (t.val % 8)] := by decide +kernel
instance closedOff_k0_off37 (t : Fin k0_t2_loop.trips) : ClosedOff (k0_off37 t) := ⟨![4, (t.val / 8), 512 * (t.val % 8)], k0_off37_eq t⟩
/-- Where a trip reads the scale of group 5. -/
theorem k0_off38_eq : ∀ t : Fin k0_t2_loop.trips, k0_off38 t = ![5, (t.val / 8), 512 * (t.val % 8)] := by decide +kernel
instance closedOff_k0_off38 (t : Fin k0_t2_loop.trips) : ClosedOff (k0_off38 t) := ⟨![5, (t.val / 8), 512 * (t.val % 8)], k0_off38_eq t⟩
/-- Where a trip reads the scale of group 6. -/
theorem k0_off39_eq : ∀ t : Fin k0_t2_loop.trips, k0_off39 t = ![6, (t.val / 8), 512 * (t.val % 8)] := by decide +kernel
instance closedOff_k0_off39 (t : Fin k0_t2_loop.trips) : ClosedOff (k0_off39 t) := ⟨![6, (t.val / 8), 512 * (t.val % 8)], k0_off39_eq t⟩
/-- Where a trip reads the scale of group 7. -/
theorem k0_off40_eq : ∀ t : Fin k0_t2_loop.trips, k0_off40 t = ![7, (t.val / 8), 512 * (t.val % 8)] := by decide +kernel
instance closedOff_k0_off40 (t : Fin k0_t2_loop.trips) : ClosedOff (k0_off40 t) := ⟨![7, (t.val / 8), 512 * (t.val % 8)], k0_off40_eq t⟩
/-- Where a trip reads the scale of group 8. -/
theorem k0_off42_eq : ∀ t : Fin k0_t2_loop.trips, k0_off42 t = ![8, (t.val / 8), 512 * (t.val % 8)] := by decide +kernel
instance closedOff_k0_off42 (t : Fin k0_t2_loop.trips) : ClosedOff (k0_off42 t) := ⟨![8, (t.val / 8), 512 * (t.val % 8)], k0_off42_eq t⟩
/-- Where a trip reads the scale of group 9. -/
theorem k0_off43_eq : ∀ t : Fin k0_t2_loop.trips, k0_off43 t = ![9, (t.val / 8), 512 * (t.val % 8)] := by decide +kernel
instance closedOff_k0_off43 (t : Fin k0_t2_loop.trips) : ClosedOff (k0_off43 t) := ⟨![9, (t.val / 8), 512 * (t.val % 8)], k0_off43_eq t⟩
/-- Where a trip reads the scale of group 10. -/
theorem k0_off44_eq : ∀ t : Fin k0_t2_loop.trips, k0_off44 t = ![10, (t.val / 8), 512 * (t.val % 8)] := by decide +kernel
instance closedOff_k0_off44 (t : Fin k0_t2_loop.trips) : ClosedOff (k0_off44 t) := ⟨![10, (t.val / 8), 512 * (t.val % 8)], k0_off44_eq t⟩
/-- Where a trip reads the scale of group 11. -/
theorem k0_off45_eq : ∀ t : Fin k0_t2_loop.trips, k0_off45 t = ![11, (t.val / 8), 512 * (t.val % 8)] := by decide +kernel
instance closedOff_k0_off45 (t : Fin k0_t2_loop.trips) : ClosedOff (k0_off45 t) := ⟨![11, (t.val / 8), 512 * (t.val % 8)], k0_off45_eq t⟩
/-- Where a trip reads the scale of group 12. -/
theorem k0_off46_eq : ∀ t : Fin k0_t2_loop.trips, k0_off46 t = ![12, (t.val / 8), 512 * (t.val % 8)] := by decide +kernel
instance closedOff_k0_off46 (t : Fin k0_t2_loop.trips) : ClosedOff (k0_off46 t) := ⟨![12, (t.val / 8), 512 * (t.val % 8)], k0_off46_eq t⟩
/-- Where a trip reads the scale of group 13. -/
theorem k0_off47_eq : ∀ t : Fin k0_t2_loop.trips, k0_off47 t = ![13, (t.val / 8), 512 * (t.val % 8)] := by decide +kernel
instance closedOff_k0_off47 (t : Fin k0_t2_loop.trips) : ClosedOff (k0_off47 t) := ⟨![13, (t.val / 8), 512 * (t.val % 8)], k0_off47_eq t⟩
/-- Where a trip reads the scale of group 14. -/
theorem k0_off48_eq : ∀ t : Fin k0_t2_loop.trips, k0_off48 t = ![14, (t.val / 8), 512 * (t.val % 8)] := by decide +kernel
instance closedOff_k0_off48 (t : Fin k0_t2_loop.trips) : ClosedOff (k0_off48 t) := ⟨![14, (t.val / 8), 512 * (t.val % 8)], k0_off48_eq t⟩
/-- Where a trip reads the scale of group 15. -/
theorem k0_off49_eq : ∀ t : Fin k0_t2_loop.trips, k0_off49 t = ![15, (t.val / 8), 512 * (t.val % 8)] := by decide +kernel
instance closedOff_k0_off49 (t : Fin k0_t2_loop.trips) : ClosedOff (k0_off49 t) := ⟨![15, (t.val / 8), 512 * (t.val % 8)], k0_off49_eq t⟩
/-- Where a trip writes the sixteen rows of group `r`. -/
theorem k0_off33_eq : ∀ t : Fin k0_t2_loop.trips, ∀ r : Fin 16,
    k0_off33 t (BitVec.ofNat 32 (16 * r.val)) = ![256 * (t.val / 8) + 16 * r.val, 512 * (t.val % 8)] := by decide +kernel
instance closedOff_k0_off33_0 (t : Fin k0_t2_loop.trips) : ClosedOff (k0_off33 t (BitVec.ofNat 32 0)) :=
  ⟨![256 * (t.val / 8) + 0, 512 * (t.val % 8)], k0_off33_eq t 0⟩
instance closedOff_k0_off33_1 (t : Fin k0_t2_loop.trips) : ClosedOff (k0_off33 t (BitVec.ofNat 32 16)) :=
  ⟨![256 * (t.val / 8) + 16, 512 * (t.val % 8)], k0_off33_eq t 1⟩
instance closedOff_k0_off33_2 (t : Fin k0_t2_loop.trips) : ClosedOff (k0_off33 t (BitVec.ofNat 32 32)) :=
  ⟨![256 * (t.val / 8) + 32, 512 * (t.val % 8)], k0_off33_eq t 2⟩
instance closedOff_k0_off33_3 (t : Fin k0_t2_loop.trips) : ClosedOff (k0_off33 t (BitVec.ofNat 32 48)) :=
  ⟨![256 * (t.val / 8) + 48, 512 * (t.val % 8)], k0_off33_eq t 3⟩
instance closedOff_k0_off33_4 (t : Fin k0_t2_loop.trips) : ClosedOff (k0_off33 t (BitVec.ofNat 32 64)) :=
  ⟨![256 * (t.val / 8) + 64, 512 * (t.val % 8)], k0_off33_eq t 4⟩
instance closedOff_k0_off33_5 (t : Fin k0_t2_loop.trips) : ClosedOff (k0_off33 t (BitVec.ofNat 32 80)) :=
  ⟨![256 * (t.val / 8) + 80, 512 * (t.val % 8)], k0_off33_eq t 5⟩
instance closedOff_k0_off33_6 (t : Fin k0_t2_loop.trips) : ClosedOff (k0_off33 t (BitVec.ofNat 32 96)) :=
  ⟨![256 * (t.val / 8) + 96, 512 * (t.val % 8)], k0_off33_eq t 6⟩
instance closedOff_k0_off33_7 (t : Fin k0_t2_loop.trips) : ClosedOff (k0_off33 t (BitVec.ofNat 32 112)) :=
  ⟨![256 * (t.val / 8) + 112, 512 * (t.val % 8)], k0_off33_eq t 7⟩
instance closedOff_k0_off33_8 (t : Fin k0_t2_loop.trips) : ClosedOff (k0_off33 t (BitVec.ofNat 32 128)) :=
  ⟨![256 * (t.val / 8) + 128, 512 * (t.val % 8)], k0_off33_eq t 8⟩
instance closedOff_k0_off33_9 (t : Fin k0_t2_loop.trips) : ClosedOff (k0_off33 t (BitVec.ofNat 32 144)) :=
  ⟨![256 * (t.val / 8) + 144, 512 * (t.val % 8)], k0_off33_eq t 9⟩
instance closedOff_k0_off33_10 (t : Fin k0_t2_loop.trips) : ClosedOff (k0_off33 t (BitVec.ofNat 32 160)) :=
  ⟨![256 * (t.val / 8) + 160, 512 * (t.val % 8)], k0_off33_eq t 10⟩
instance closedOff_k0_off33_11 (t : Fin k0_t2_loop.trips) : ClosedOff (k0_off33 t (BitVec.ofNat 32 176)) :=
  ⟨![256 * (t.val / 8) + 176, 512 * (t.val % 8)], k0_off33_eq t 11⟩
instance closedOff_k0_off33_12 (t : Fin k0_t2_loop.trips) : ClosedOff (k0_off33 t (BitVec.ofNat 32 192)) :=
  ⟨![256 * (t.val / 8) + 192, 512 * (t.val % 8)], k0_off33_eq t 12⟩
instance closedOff_k0_off33_13 (t : Fin k0_t2_loop.trips) : ClosedOff (k0_off33 t (BitVec.ofNat 32 208)) :=
  ⟨![256 * (t.val / 8) + 208, 512 * (t.val % 8)], k0_off33_eq t 13⟩
instance closedOff_k0_off33_14 (t : Fin k0_t2_loop.trips) : ClosedOff (k0_off33 t (BitVec.ofNat 32 224)) :=
  ⟨![256 * (t.val / 8) + 224, 512 * (t.val % 8)], k0_off33_eq t 14⟩
instance closedOff_k0_off33_15 (t : Fin k0_t2_loop.trips) : ClosedOff (k0_off33 t (BitVec.ofNat 32 240)) :=
  ⟨![256 * (t.val / 8) + 240, 512 * (t.val % 8)], k0_off33_eq t 15⟩

end Cert.Kernel.Hand

end
-- ==== Proof.KLoop.lean ====
/- The invariant of the dequantisation loop of `Kernel`, for the frame: what the loop reads stays as it was, and the
weight buffer holds something. -/
module

public import proofs.«01_k».proof.Proof.Gen.Kernel.Loops
public import proofs.«01_k».proof.Proof.KClosed
public import Idealize.ShloMosaic.Lib.Tactic

@[expose] public section

set_option maxRecDepth 16384
set_option maxHeartbeats 4000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

/-- The buffers of the dequantisation loop: the high bits, the low bits and the scales at given contents, the weights at
some contents. -/
abbrev inv_k0_t2 (c : Dev nD) (arg3 : Memref sig .tc .vmem S8x32x4096 .i8) (arg4 : Memref sig .tc .vmem S8x64x4096 .i8)
    (arg8 : Memref sig .tc .vmem S2048x4096 .bf16) (arg9 : Memref sig .tc .vmem S16x8x4096 .i32)
    (X3 : BufTy.Contents (Elt F) arg3.view.ty) (X4 : BufTy.Contents (Elt F) arg4.view.ty) (X9 : BufTy.Contents (Elt F) arg9.view.ty)
    (_k : ℕ) (_u : PUnit) : sProp 𝕄 :=
  iprop((arg3.view.loc (c : Thread nD τ) ↦[arg3.view.set]{fullShare} X3) ∗ (arg4.view.loc (c : Thread nD τ) ↦[arg4.view.set]{fullShare} X4) ∗ (arg9.view.loc (c : Thread nD τ) ↦[arg9.view.set]{fullShare} X9)
    ∗ (∃ f, (arg8.view.loc (c : Thread nD τ) ↦[arg8.view.set]{fullShare} f)))

set_option warn.classDefReducibility false in
/-- A trip of the dequantisation loop keeps the invariant. -/
@[sl_loop] def loopInv_k0_t2 (𝒱 : Variants) (c : Dev nD) (bd : Option 𝒱.V) (E : Set ℕ) (i : grid0.Coords) (arg2 : Memref sig .tc .vmem S512x4096 .bf16) (harg2 : arg2.IsWhole) (arg3 : Memref sig .tc .vmem S8x32x4096 .i8) (harg3 : arg3.IsWhole) (arg4 : Memref sig .tc .vmem S8x64x4096 .i8) (harg4 : arg4.IsWhole) (arg5 : Memref sig .tc .vmem S12x8x4096 .i8) (harg5 : arg5.IsWhole) (arg6 : Memref sig .tc .vmem S8x4096 .f16) (harg6 : arg6.IsWhole) (arg7 : Memref sig .tc .vmem S512x2048 .bf16) (harg7 : arg7.IsWhole) (arg8 : Memref sig .tc .vmem S2048x4096 .bf16) (harg8 : arg8.IsWhole) (arg9 : Memref sig .tc .vmem S16x8x4096 .i32) (harg9 : arg9.IsWhole) (k0_h1 : k0_cond1 i = 1#1)
    (X3 : BufTy.Contents (Elt F) arg3.view.ty) (X4 : BufTy.Contents (Elt F) arg4.view.ty) (X9 : BufTy.Contents (Elt F) arg9.view.ty) :
    LoopInvTy_k0_t2 (F := F) Unit ℕ (UR sig nD τ) ℕ 𝒱 c bd E i arg2 harg2 arg3 harg3 arg4 harg4 arg5 harg5 arg6 harg6 arg7 harg7 arg8 harg8 arg9 harg9 k0_h1 where
  inv := inv_k0_t2 (F := F) c arg3 arg4 arg8 arg9 X3 X4 X9
  step k acc := by
    have hk : k.val < 64 := Nat.lt_of_lt_of_le k.isLt k0_t2_abs.2.1
    unfold k0_t2_body
    iintro ⟨H3, H4, H9, ⟨%f, H8⟩⟩
    sl_exec
    sl_step
    isplitl [H3]; · iexact H3
    isplitl [H4]; · iexact H4
    isplitl [H9]; · iexact H9
    iexists _; iexact H8

end Cert.Kernel.Hand

end
-- ==== Proof.KFrame.lean ====
/- The frame of `Kernel`: the run ends, the five argument arrays end as they were, and every semaphore counter ends at
zero. What the kernel leaves in its result array is not named here. -/
module

public import proofs.«01_k».proof.Proof.Gen.Kernel.Frame
public import proofs.«01_k».proof.Proof.Gen.Kernel.Skeleton
public import proofs.«01_k».proof.Proof.KLoop
public import Idealize.ShloMosaic.Lib.Claim

@[expose] public section

set_option maxRecDepth 16384
set_option maxHeartbeats 4000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The arguments end as they began -/

/-- The arguments end as they began, for any run that ends with every array the proof data leaves alone as it was before the kernel. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition under which the body fills its scratch arrays: the row tile is the first of its stripe. -/
abbrev cond0_0 (i : grid0.Coords) : Prop := k0_cond1 i = 1#1
/-- It holds at the points whose number is a multiple of 18. -/
theorem hcond0_0 : ∀ t : Fin cfg0.N, cond0_0 (grid0.coords t) ↔ t.val % 18 = 0 :=
  (fun t => by
    have ht : t.val < 126 := Nat.lt_of_lt_of_eq t.isLt N_0
    have e0 : (grid0.coords t 0).val = t.val / 18 % 7 := Pipeline.Grid.coords_val t 0 (by decide) rfl
    have e1 : (grid0.coords t 1).val = t.val / 1 % 18 := Pipeline.Grid.coords_val t 1 (by decide) rfl
    simp only [cond0_0, k0_cond1, e0, e1]
    word_cmp
   : ∀ t : Fin grid0.N, cond0_0 (grid0.coords t) ↔ t.val % 18 = 0)

/-! ## The body of the kernel -/

/-- The buffers the body is called with at point `t`, and that each is whole. -/
abbrev ms0_0 (t : Fin cfg0.N) : Memref sig .tc .vmem S512x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x32x4096 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x64x4096 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S12x8x4096 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x4096 .f16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .bf16 := win0_5.stage (cfg0.slots t 5)
abbrev hs0_5 (t : Fin cfg0.N) : (ms0_5 t).IsWhole := hstage0_5 ((cfg0.slots t 5).cast nbuf0_5)
/-- The scratch arrays of the body. -/
abbrev scM0_0 : Memref sig .tc .vmem S2048x4096 .bf16 := Memref.whole cc0_scratch0
abbrev scM0_1 : Memref sig .tc .vmem S16x8x4096 .i32 := Memref.whole cc0_scratch1

/-- What the body holds between two points: its scratch arrays and the generator register, at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

set_option maxHeartbeats 1000000 in
/-- At the first row tile of a stripe the body runs to its end, leaving its inputs as they were and the result block and the scratch arrays at some contents. -/
theorem kernelRun0_A (c : Dev nD) (i : grid0.Coords) (arg2 : Memref sig .tc .vmem S512x4096 .bf16) (harg2 : arg2.IsWhole) (arg3 : Memref sig .tc .vmem S8x32x4096 .i8) (harg3 : arg3.IsWhole) (arg4 : Memref sig .tc .vmem S8x64x4096 .i8) (harg4 : arg4.IsWhole) (arg5 : Memref sig .tc .vmem S12x8x4096 .i8) (harg5 : arg5.IsWhole) (arg6 : Memref sig .tc .vmem S8x4096 .f16) (harg6 : arg6.IsWhole) (arg7 : Memref sig .tc .vmem S512x2048 .bf16) (harg7 : arg7.IsWhole) (arg8 : Memref sig .tc .vmem S2048x4096 .bf16) (harg8 : arg8.IsWhole) (arg9 : Memref sig .tc .vmem S16x8x4096 .i32) (harg9 : arg9.IsWhole) (hc0 : cond0_0 i)
    (x0 : Vec F S512x4096 .bf16) (x1 : Vec F S8x32x4096 .i8) (x2 : Vec F S8x64x4096 .i8) (x3 : Vec F S12x8x4096 .i8) (x4 : Vec F S8x4096 .f16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_q3k_dgrad i arg2 harg2 arg3 harg3 arg4 harg4 arg5 harg5 arg6 harg6 arg7 harg7 arg8 harg8 arg9 harg9) K := by
    intro E K
    simp only [cc0_q3k_dgrad_eq_skeleton]; unfold cc0_q3k_dgrad_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [HS0]
    · iexists _, _; isplitr; swap; · iexact HS0
      ipureintro; rfl
    iexists _, _; isplitr; swap; · iexact HS1
    ipureintro; rfl

set_option maxHeartbeats 1000000 in
/-- At every other row tile the body runs to its end, leaving its inputs as they were and the result block and the scratch arrays at some contents. -/
theorem kernelRun0_B (c : Dev nD) (i : grid0.Coords) (arg2 : Memref sig .tc .vmem S512x4096 .bf16) (harg2 : arg2.IsWhole) (arg3 : Memref sig .tc .vmem S8x32x4096 .i8) (harg3 : arg3.IsWhole) (arg4 : Memref sig .tc .vmem S8x64x4096 .i8) (harg4 : arg4.IsWhole) (arg5 : Memref sig .tc .vmem S12x8x4096 .i8) (harg5 : arg5.IsWhole) (arg6 : Memref sig .tc .vmem S8x4096 .f16) (harg6 : arg6.IsWhole) (arg7 : Memref sig .tc .vmem S512x2048 .bf16) (harg7 : arg7.IsWhole) (arg8 : Memref sig .tc .vmem S2048x4096 .bf16) (harg8 : arg8.IsWhole) (arg9 : Memref sig .tc .vmem S16x8x4096 .i32) (harg9 : arg9.IsWhole) (hc0 : ¬cond0_0 i)
    (x0 : Vec F S512x4096 .bf16) (x1 : Vec F S8x32x4096 .i8) (x2 : Vec F S8x64x4096 .i8) (x3 : Vec F S12x8x4096 .i8) (x4 : Vec F S8x4096 .f16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_q3k_dgrad i arg2 harg2 arg3 harg3 arg4 harg4 arg5 harg5 arg6 harg6 arg7 harg7 arg8 harg8 arg9 harg9) K := by
    intro E K
    simp only [cc0_q3k_dgrad_eq_skeleton]; unfold cc0_q3k_dgrad_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [HS0]
    · iexists _, _; isplitr; swap; · iexact HS0
      ipureintro; rfl
    iexists _, _; isplitr; swap; · iexact HS1
    ipureintro; rfl

/-! ## The pipeline's proof data -/

/-- The result's contents are not tracked here. -/
def forgets0 : Fin 6 → Bool := fun w => w.val == 5

/-- The proof data: each array as the kernel finds it, each input's buffer at its block after every point, the result's contents not tracked. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

/-- The arrays of the proof data are those the kernel finds. -/
theorem A_eq (c : Dev nD) (w : Fin cfg0.W) : (dats m 0 c).A w = V m c (Pipeline.arrRef spec0 w) := by
  dsimp only [dats]

/-- After a point each input's buffer holds its block, -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- and so it does before one. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d))

set_option maxHeartbeats 1600000 in
/-- The body at any point, by cases on whether it is the first row tile of its stripe. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  have hN : t.val < 126 := lt_of_lt_of_eq t.isLt (show cfg0.N = 126 from N_0)
  by_cases h0 : t.val % 18 = 0
  · iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ ((hcond0_0 t).mpr h0) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5
  · iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ _ _ (fun h => h0 ((hcond0_0 t).mp h)) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body a point runs. -/
theorem defs₀_row (t : Fin cfg0.N) :
    defs₀ (F := F) .tc cfg0.body (cfg0.bodyArgs t (cfg0.slots t)) = bodyAt0 t := by
  unfold defs₀; rw [Defs.onTc_tc]

/-- The body at every point, as the theorem about the whole grid asks for it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- Every run of the program ends, with the arrays the proof data says and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run of the program ends, with the arrays the proof data says. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- Every run ends with the arguments as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- Every run ends, with the arguments as they began and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Hand

end
-- ==== Proof.IClosed.lean ====
/- The offsets at which the dequantisation loop of `KernelIdeal` reads and writes, in closed form.

Trip `t` of that loop works on block `t / 8` of the stripe and on the lanes `512 * (t % 8) …`. -/
module

public import proofs.«01_k».proof.Proof.Gen.KernelIdeal
public import Idealize.ShloMosaic.Lib.Exec
public import Idealize.ShloMosaic.Lib.Decide

@[expose] public section

set_option Elab.async false

namespace Cert.KernelIdeal.Hand

open Idealize.ShloMosaic Idealize.SL.Sem
open Cert.KernelIdeal Cert.KernelIdeal.Gen

/-- Where a trip reads the high bits. -/
theorem k0_off30_eq : ∀ t : Fin k0_t2_loop.trips, k0_off30 t = ![(t.val / 8), 0, 512 * (t.val % 8)] := by decide +kernel
instance closedOff_k0_off30 (t : Fin k0_t2_loop.trips) : ClosedOff (k0_off30 t) := ⟨![(t.val / 8), 0, 512 * (t.val % 8)], k0_off30_eq t⟩
/-- Where a trip reads the low bits of the first half. -/
theorem k0_off31_eq : ∀ t : Fin k0_t2_loop.trips, k0_off31 t = ![(t.val / 8), 0, 512 * (t.val % 8)] := by decide +kernel
instance closedOff_k0_off31 (t : Fin k0_t2_loop.trips) : ClosedOff (k0_off31 t) := ⟨![(t.val / 8), 0, 512 * (t.val % 8)], k0_off31_eq t⟩
/-- Where a trip reads the low bits of the second half. -/
theorem k0_off41_eq : ∀ t : Fin k0_t2_loop.trips, k0_off41 t = ![(t.val / 8), 32, 512 * (t.val % 8)] := by decide +kernel
instance closedOff_k0_off41 (t : Fin k0_t2_loop.trips) : ClosedOff (k0_off41 t) := ⟨![(t.val / 8), 32, 512 * (t.val % 8)], k0_off41_eq t⟩
/-- Where a trip reads the scale of group 0. -/
theorem k0_off32_eq : ∀ t : Fin k0_t2_loop.trips, k0_off32 t = ![0, (t.val / 8), 0, 512 * (t.val % 8)] := by decide +kernel
instance closedOff_k0_off32 (t : Fin k0_t2_loop.trips) : ClosedOff (k0_off32 t) := ⟨![0, (t.val / 8), 0, 512 * (t.val % 8)], k0_off32_eq t⟩
/-- Where a trip reads the scale of group 1. -/
theorem k0_off34_eq : ∀ t : Fin k0_t2_loop.trips, k0_off34 t = ![1, (t.val / 8), 0, 512 * (t.val % 8)] := by decide +kernel
instance closedOff_k0_off34 (t : Fin k0_t2_loop.trips) : ClosedOff (k0_off34 t) := ⟨![1, (t.val / 8), 0, 512 * (t.val % 8)], k0_off34_eq t⟩
/-- Where a trip reads the scale of group 2. -/
theorem k0_off35_eq : ∀ t : Fin k0_t2_loop.trips, k0_off35 t = ![2, (t.val / 8), 0, 512 * (t.val % 8)] := by decide +kernel
instance closedOff_k0_off35 (t : Fin k0_t2_loop.trips) : ClosedOff (k0_off35 t) := ⟨![2, (t.val / 8), 0, 512 * (t.val % 8)], k0_off35_eq t⟩
/-- Where a trip reads the scale of group 3. -/
theorem k0_off36_eq : ∀ t : Fin k0_t2_loop.trips, k0_off36 t = ![3, (t.val / 8), 0, 512 * (t.val % 8)] := by decide +kernel
instance closedOff_k0_off36 (t : Fin k0_t2_loop.trips) : ClosedOff (k0_off36 t) := ⟨![3, (t.val / 8), 0, 512 * (t.val % 8)], k0_off36_eq t⟩
/-- Where a trip reads the scale of group 4. -/
theorem k0_off37_eq : ∀ t : Fin k0_t2_loop.trips, k0_off37 t = ![4, (t.val / 8), 0, 512 * (t.val % 8)] := by decide +kernel
instance closedOff_k0_off37 (t : Fin k0_t2_loop.trips) : ClosedOff (k0_off37 t) := ⟨![4, (t.val / 8), 0, 512 * (t.val % 8)], k0_off37_eq t⟩
/-- Where a trip reads the scale of group 5. -/
theorem k0_off38_eq : ∀ t : Fin k0_t2_loop.trips, k0_off38 t = ![5, (t.val / 8), 0, 512 * (t.val % 8)] := by decide +kernel
instance closedOff_k0_off38 (t : Fin k0_t2_loop.trips) : ClosedOff (k0_off38 t) := ⟨![5, (t.val / 8), 0, 512 * (t.val % 8)], k0_off38_eq t⟩
/-- Where a trip reads the scale of group 6. -/
theorem k0_off39_eq : ∀ t : Fin k0_t2_loop.trips, k0_off39 t = ![6, (t.val / 8), 0, 512 * (t.val % 8)] := by decide +kernel
instance closedOff_k0_off39 (t : Fin k0_t2_loop.trips) : ClosedOff (k0_off39 t) := ⟨![6, (t.val / 8), 0, 512 * (t.val % 8)], k0_off39_eq t⟩
/-- Where a trip reads the scale of group 7. -/
theorem k0_off40_eq : ∀ t : Fin k0_t2_loop.trips, k0_off40 t = ![7, (t.val / 8), 0, 512 * (t.val % 8)] := by decide +kernel
instance closedOff_k0_off40 (t : Fin k0_t2_loop.trips) : ClosedOff (k0_off40 t) := ⟨![7, (t.val / 8), 0, 512 * (t.val % 8)], k0_off40_eq t⟩
/-- Where a trip reads the scale of group 8. -/
theorem k0_off42_eq : ∀ t : Fin k0_t2_loop.trips, k0_off42 t = ![8, (t.val / 8), 0, 512 * (t.val % 8)] := by decide +kernel
instance closedOff_k0_off42 (t : Fin k0_t2_loop.trips) : ClosedOff (k0_off42 t) := ⟨![8, (t.val / 8), 0, 512 * (t.val % 8)], k0_off42_eq t⟩
/-- Where a trip reads the scale of group 9. -/
theorem k0_off43_eq : ∀ t : Fin k0_t2_loop.trips, k0_off43 t = ![9, (t.val / 8), 0, 512 * (t.val % 8)] := by decide +kernel
instance closedOff_k0_off43 (t : Fin k0_t2_loop.trips) : ClosedOff (k0_off43 t) := ⟨![9, (t.val / 8), 0, 512 * (t.val % 8)], k0_off43_eq t⟩
/-- Where a trip reads the scale of group 10. -/
theorem k0_off44_eq : ∀ t : Fin k0_t2_loop.trips, k0_off44 t = ![10, (t.val / 8), 0, 512 * (t.val % 8)] := by decide +kernel
instance closedOff_k0_off44 (t : Fin k0_t2_loop.trips) : ClosedOff (k0_off44 t) := ⟨![10, (t.val / 8), 0, 512 * (t.val % 8)], k0_off44_eq t⟩
/-- Where a trip reads the scale of group 11. -/
theorem k0_off45_eq : ∀ t : Fin k0_t2_loop.trips, k0_off45 t = ![11, (t.val / 8), 0, 512 * (t.val % 8)] := by decide +kernel
instance closedOff_k0_off45 (t : Fin k0_t2_loop.trips) : ClosedOff (k0_off45 t) := ⟨![11, (t.val / 8), 0, 512 * (t.val % 8)], k0_off45_eq t⟩
/-- Where a trip reads the scale of group 12. -/
theorem k0_off46_eq : ∀ t : Fin k0_t2_loop.trips, k0_off46 t = ![12, (t.val / 8), 0, 512 * (t.val % 8)] := by decide +kernel
instance closedOff_k0_off46 (t : Fin k0_t2_loop.trips) : ClosedOff (k0_off46 t) := ⟨![12, (t.val / 8), 0, 512 * (t.val % 8)], k0_off46_eq t⟩
/-- Where a trip reads the scale of group 13. -/
theorem k0_off47_eq : ∀ t : Fin k0_t2_loop.trips, k0_off47 t = ![13, (t.val / 8), 0, 512 * (t.val % 8)] := by decide +kernel
instance closedOff_k0_off47 (t : Fin k0_t2_loop.trips) : ClosedOff (k0_off47 t) := ⟨![13, (t.val / 8), 0, 512 * (t.val % 8)], k0_off47_eq t⟩
/-- Where a trip reads the scale of group 14. -/
theorem k0_off48_eq : ∀ t : Fin k0_t2_loop.trips, k0_off48 t = ![14, (t.val / 8), 0, 512 * (t.val % 8)] := by decide +kernel
instance closedOff_k0_off48 (t : Fin k0_t2_loop.trips) : ClosedOff (k0_off48 t) := ⟨![14, (t.val / 8), 0, 512 * (t.val % 8)], k0_off48_eq t⟩
/-- Where a trip reads the scale of group 15. -/
theorem k0_off49_eq : ∀ t : Fin k0_t2_loop.trips, k0_off49 t = ![15, (t.val / 8), 0, 512 * (t.val % 8)] := by decide +kernel
instance closedOff_k0_off49 (t : Fin k0_t2_loop.trips) : ClosedOff (k0_off49 t) := ⟨![15, (t.val / 8), 0, 512 * (t.val % 8)], k0_off49_eq t⟩
/-- Where a trip writes the sixteen rows of group `r`. -/
theorem k0_off33_eq : ∀ t : Fin k0_t2_loop.trips, ∀ r : Fin 16,
    k0_off33 t (BitVec.ofNat 32 (16 * r.val)) = ![256 * (t.val / 8) + 16 * r.val, 512 * (t.val % 8)] := by decide +kernel
instance closedOff_k0_off33_0 (t : Fin k0_t2_loop.trips) : ClosedOff (k0_off33 t (BitVec.ofNat 32 0)) :=
  ⟨![256 * (t.val / 8) + 0, 512 * (t.val % 8)], k0_off33_eq t 0⟩
instance closedOff_k0_off33_1 (t : Fin k0_t2_loop.trips) : ClosedOff (k0_off33 t (BitVec.ofNat 32 16)) :=
  ⟨![256 * (t.val / 8) + 16, 512 * (t.val % 8)], k0_off33_eq t 1⟩
instance closedOff_k0_off33_2 (t : Fin k0_t2_loop.trips) : ClosedOff (k0_off33 t (BitVec.ofNat 32 32)) :=
  ⟨![256 * (t.val / 8) + 32, 512 * (t.val % 8)], k0_off33_eq t 2⟩
instance closedOff_k0_off33_3 (t : Fin k0_t2_loop.trips) : ClosedOff (k0_off33 t (BitVec.ofNat 32 48)) :=
  ⟨![256 * (t.val / 8) + 48, 512 * (t.val % 8)], k0_off33_eq t 3⟩
instance closedOff_k0_off33_4 (t : Fin k0_t2_loop.trips) : ClosedOff (k0_off33 t (BitVec.ofNat 32 64)) :=
  ⟨![256 * (t.val / 8) + 64, 512 * (t.val % 8)], k0_off33_eq t 4⟩
instance closedOff_k0_off33_5 (t : Fin k0_t2_loop.trips) : ClosedOff (k0_off33 t (BitVec.ofNat 32 80)) :=
  ⟨![256 * (t.val / 8) + 80, 512 * (t.val % 8)], k0_off33_eq t 5⟩
instance closedOff_k0_off33_6 (t : Fin k0_t2_loop.trips) : ClosedOff (k0_off33 t (BitVec.ofNat 32 96)) :=
  ⟨![256 * (t.val / 8) + 96, 512 * (t.val % 8)], k0_off33_eq t 6⟩
instance closedOff_k0_off33_7 (t : Fin k0_t2_loop.trips) : ClosedOff (k0_off33 t (BitVec.ofNat 32 112)) :=
  ⟨![256 * (t.val / 8) + 112, 512 * (t.val % 8)], k0_off33_eq t 7⟩
instance closedOff_k0_off33_8 (t : Fin k0_t2_loop.trips) : ClosedOff (k0_off33 t (BitVec.ofNat 32 128)) :=
  ⟨![256 * (t.val / 8) + 128, 512 * (t.val % 8)], k0_off33_eq t 8⟩
instance closedOff_k0_off33_9 (t : Fin k0_t2_loop.trips) : ClosedOff (k0_off33 t (BitVec.ofNat 32 144)) :=
  ⟨![256 * (t.val / 8) + 144, 512 * (t.val % 8)], k0_off33_eq t 9⟩
instance closedOff_k0_off33_10 (t : Fin k0_t2_loop.trips) : ClosedOff (k0_off33 t (BitVec.ofNat 32 160)) :=
  ⟨![256 * (t.val / 8) + 160, 512 * (t.val % 8)], k0_off33_eq t 10⟩
instance closedOff_k0_off33_11 (t : Fin k0_t2_loop.trips) : ClosedOff (k0_off33 t (BitVec.ofNat 32 176)) :=
  ⟨![256 * (t.val / 8) + 176, 512 * (t.val % 8)], k0_off33_eq t 11⟩
instance closedOff_k0_off33_12 (t : Fin k0_t2_loop.trips) : ClosedOff (k0_off33 t (BitVec.ofNat 32 192)) :=
  ⟨![256 * (t.val / 8) + 192, 512 * (t.val % 8)], k0_off33_eq t 12⟩
instance closedOff_k0_off33_13 (t : Fin k0_t2_loop.trips) : ClosedOff (k0_off33 t (BitVec.ofNat 32 208)) :=
  ⟨![256 * (t.val / 8) + 208, 512 * (t.val % 8)], k0_off33_eq t 13⟩
instance closedOff_k0_off33_14 (t : Fin k0_t2_loop.trips) : ClosedOff (k0_off33 t (BitVec.ofNat 32 224)) :=
  ⟨![256 * (t.val / 8) + 224, 512 * (t.val % 8)], k0_off33_eq t 14⟩
instance closedOff_k0_off33_15 (t : Fin k0_t2_loop.trips) : ClosedOff (k0_off33 t (BitVec.ofNat 32 240)) :=
  ⟨![256 * (t.val / 8) + 240, 512 * (t.val % 8)], k0_off33_eq t 15⟩

end Cert.KernelIdeal.Hand

end
-- ==== Proof.ISpec.lean ====
/- What the dequantisation writes, element by element, and that the vector operations of the kernel compute it.

A weight of group `i` of a block is `(code - 4) * scale`, the code three bits: two low bits out of the byte of low bits and
one high bit out of the byte of high bits. The kernel finds the codes of four rows at a time, as the four bytes of a word. -/
module

public import proofs.«01_k».proof.Proof.Gen.KernelIdeal.Skeleton
public import Idealize.ShloMosaic.Lib.PointwiseCore
public import Idealize.ShloMosaic.Lib.BitcastFour

@[expose] public section

set_option maxRecDepth 16384
set_option maxHeartbeats 1000000

noncomputable section

namespace Cert.KernelIdeal.Hand

open Idealize.ShloMosaic Idealize.SL.Sem
open Cert.KernelIdeal Cert.KernelIdeal.Gen

variable {F : FTy → Type} [FloatOps F]

/-- The three-bit code at shift `k = i / 2` of a group `i`: bits `2 (k % 4)` and `2 (k % 4) + 1` of the byte of low bits, and
bit `k` of the byte of high bits. -/
def codeByte (k : ℕ) (qb hb : BitVec 8) : BitVec 8 := ((qb >>> (2 * (k % 4))) &&& 3#8) ||| (((hb >>> k) &&& 1#8) <<< 2)

/-- The word of high bits moved so that the bit at shift `k` stands at bit 2 of each byte. -/
def hiWord (k : ℕ) (hm : IVec S8x512 32) : IVec S8x512 32 :=
  if k < 2 then shli hm (broadcast S8x512 (BitVec.ofNat 32 (2 - k))) else shrui hm (broadcast S8x512 (BitVec.ofNat 32 (k - 2)))

/-- The codes at shift `k` as words. -/
def codeWord (k : ℕ) (hm qw : IVec S8x512 32) : IVec S8x512 32 :=
  ori (andi (shrui qw (broadcast S8x512 (BitVec.ofNat 32 (2 * (k % 4))))) (broadcast S8x512 50529027#32))
    (andi (hiWord k hm) (broadcast S8x512 67372036#32))

/-- Thirty-two rows of bytes as words. -/
def words (v : IVec S1x32x512 8) : IVec S8x512 32 :=
  bitcast S8x512 32 (shapeCast S32x512 v shapeCasts_S1x32x512_S32x512) bitcasts_S32x512_w8_S8x512_w32

/-- The codes at shift `k` less four, as the kernel computes them. -/
def qtile (k : ℕ) (hm qw : IVec S1x32x512 8) : FVec F S32x512 .bf16 :=
  subf (sitofp .bf16 (bitcast S32x512 8 (codeWord k (words hm) (words qw)) bitcasts_S8x512_w32_S32x512_w8))
    (broadcast S32x512 (Scalar.ofBits .bf16 0x4080#16))

theorem mask3 (ρ b : ℕ) (hρ : ρ < 4) (hb : b < 8) : (50529027#32).getLsbD (8 * ρ + b) = decide (b < 2) := by
  interval_cases ρ <;> interval_cases b <;> rfl

theorem mask4 (ρ b : ℕ) (hρ : ρ < 4) (hb : b < 8) : (67372036#32).getLsbD (8 * ρ + b) = decide (b = 2) := by
  interval_cases ρ <;> interval_cases b <;> rfl

/-- A bit of a word is a bit of the byte of its row. -/
theorem words_getLsbD (v : IVec S1x32x512 8) (r : Fin 32) (l : Fin 512) (b : ℕ) (hb : b < 8) :
    (words v (ix2 ⟨r.val / 4, by omega⟩ l)).getLsbD (8 * (r.val % 4) + b) = (v (ix3 0 r l)).getLsbD b := by
  unfold words
  rw [ix2_eq_valueIdx, bitcast_8_32_getLsbD_ix2 _ _ _ _ _ (by omega) r (by dsimp only; omega), ← ix2_eq_valueIdx]
  congr 1
  · pointwise
  · omega

theorem codeByte_getLsbD (k : ℕ) (hk : k < 8) (qb hb : BitVec 8) (b : ℕ) (hb8 : b < 8) :
    (codeByte k qb hb).getLsbD b
      = ((decide (b < 2) && qb.getLsbD (2 * (k % 4) + b)) || (decide (b = 2) && hb.getLsbD k)) := by
  unfold codeByte
  have e3 : (3#8).getLsbD b = decide (b < 2) := by interval_cases b <;> rfl
  simp only [BitVec.getLsbD_or, BitVec.getLsbD_and, BitVec.getLsbD_ushiftRight, BitVec.getLsbD_shiftLeft, e3]
  rcases Nat.lt_trichotomy b 2 with h | h | h
  · simp [h, show b ≠ 2 by omega]
  · subst h; simp
  · have e1 : (1#8).getLsbD (b - 2) = false := by interval_cases b <;> rfl
    simp [show ¬ b < 2 by omega, show b ≠ 2 by omega, e1]

/-- The byte of a row of the code words is the row's code. -/
theorem codeWord_byte (k : ℕ) (hk : k < 8) (hm qw : IVec S1x32x512 8) (r : Fin 32) (l : Fin 512) :
    bitcast S32x512 8 (codeWord k (words hm) (words qw)) bitcasts_S8x512_w32_S32x512_w8 (ix2 r l)
      = codeByte k (qw (ix3 0 r l)) (hm (ix3 0 r l)) := by
  apply BitVec.eq_of_getLsbD_eq
  intro b hb
  rw [bitcast_getLsbD _ _ _ b hb (by decide), codeByte_getLsbD k hk _ _ b hb]
  have hrow : Shape.row (s := S32x512) (ix2 r l) = r.val := rfl
  have e1 : (Shape.row (s := S32x512) (ix2 r l) * 8 + b) % 32 = 8 * (r.val % 4) + b := by rw [hrow]; omega
  have e2 : (Shape.row (s := S32x512) (ix2 r l) * 8 + b) / 32 = r.val / 4 := by rw [hrow]; omega
  rw [e1]
  have ei : ∀ hp, bitcasts_S8x512_w32_S32x512_w8.srcIdx (ix2 r l : S32x512.Idx)
      ((Shape.row (s := S32x512) (ix2 r l) * 8 + b) / 32) hp = (ix2 ⟨r.val / 4, by omega⟩ l : S8x512.Idx) := by
    intro hp
    funext c
    match c with
    | ⟨0, _⟩ => exact Fin.ext ((bitcasts_S8x512_w32_S32x512_w8.srcIdx_row _ _ _ ⟨0, Nat.zero_lt_two⟩ rfl).trans e2)
    | ⟨1, _⟩ => exact Fin.ext (bitcasts_S8x512_w32_S32x512_w8.srcIdx_other _ _ _ ⟨1, Nat.one_lt_two⟩ (by show ¬ 1 + 2 = 2; omega))
  rw [ei]
  have low : ((shrui (words qw) (broadcast S8x512 (BitVec.ofNat 32 (2 * (k % 4))))) (ix2 ⟨r.val / 4, by omega⟩ l)).getLsbD (8 * (r.val % 4) + b)
      = (words qw (ix2 ⟨r.val / 4, by omega⟩ l)).getLsbD (2 * (k % 4) + (8 * (r.val % 4) + b)) := by
    show ((if _ then _ else _ : BitVec 32)).getLsbD _ = _
    have e : (BitVec.ofNat 32 (2 * (k % 4))).toNat = 2 * (k % 4) := by
      rw [BitVec.toNat_ofNat]; omega
    have e' : (broadcast S8x512 (BitVec.ofNat 32 (2 * (k % 4))) (ix2 ⟨r.val / 4, by omega⟩ l : S8x512.Idx)).toNat = 2 * (k % 4) := e
    rw [if_pos (by rw [e']; omega)]
    rw [BitVec.ushiftRight_eq', BitVec.getLsbD_ushiftRight, e']
  have high : b = 2 → ((hiWord k (words hm)) (ix2 ⟨r.val / 4, by omega⟩ l)).getLsbD (8 * (r.val % 4) + b)
      = (hm (ix3 0 r l)).getLsbD k := by
    intro h2
    subst h2
    unfold hiWord
    split
    · rename_i h
      show ((if _ then _ else _ : BitVec 32)).getLsbD _ = _
      have e' : (broadcast S8x512 (BitVec.ofNat 32 (2 - k)) (ix2 ⟨r.val / 4, by omega⟩ l : S8x512.Idx)).toNat = 2 - k := by
        show (BitVec.ofNat 32 (2 - k)).toNat = _
        rw [BitVec.toNat_ofNat]; omega
      rw [if_pos (by rw [e']; omega)]
      rw [BitVec.shiftLeft_eq', BitVec.getLsbD_shiftLeft, e',
        show 8 * (r.val % 4) + 2 - (2 - k) = 8 * (r.val % 4) + k by omega, words_getLsbD hm r l k hk]
      simp [show 8 * (r.val % 4) + 2 < 32 by omega, show ¬ 8 * (r.val % 4) + 2 < 2 - k by omega]
    · rename_i h
      show ((if _ then _ else _ : BitVec 32)).getLsbD _ = _
      have e' : (broadcast S8x512 (BitVec.ofNat 32 (k - 2)) (ix2 ⟨r.val / 4, by omega⟩ l : S8x512.Idx)).toNat = k - 2 := by
        show (BitVec.ofNat 32 (k - 2)).toNat = _
        rw [BitVec.toNat_ofNat]; omega
      rw [if_pos (by rw [e']; omega)]
      rw [BitVec.ushiftRight_eq', BitVec.getLsbD_ushiftRight, e',
        show k - 2 + (8 * (r.val % 4) + 2) = 8 * (r.val % 4) + k by omega, words_getLsbD hm r l k hk]
  show (_ ||| _ : BitVec 32).getLsbD _ = _
  rw [BitVec.getLsbD_or]
  show ((_ &&& _ : BitVec 32).getLsbD _ || (_ &&& _ : BitVec 32).getLsbD _) = _
  rw [BitVec.getLsbD_and, BitVec.getLsbD_and, low]
  show ((_ && (50529027#32).getLsbD _) || (_ && (67372036#32).getLsbD _)) = _
  rw [mask3 _ _ (by omega) hb, mask4 _ _ (by omega) hb]
  rcases Nat.lt_trichotomy b 2 with h | h | h
  · rw [show 2 * (k % 4) + (8 * (r.val % 4) + b) = 8 * (r.val % 4) + (2 * (k % 4) + b) by omega,
      words_getLsbD qw r l _ (by omega)]
    simp [h, show b ≠ 2 by omega]
  · rw [high h]; simp [h]
  · simp [show ¬ b < 2 by omega, show b ≠ 2 by omega]

/-- A weight: a code less four, times a scale. -/
def weight (k : ℕ) (qb hb : BitVec 8) (g : F .bf16) : F .bf16 :=
  FloatOps.mulf (FloatOps.subf (FloatOps.sitofp .bf16 (codeByte k qb hb)) (Scalar.ofBits .bf16 0x4080#16)) g

/-- Row `r` of the codes of thirty-two rows less four. -/
theorem qtile_apply (k : ℕ) (hk : k < 8) (hm qw : IVec S1x32x512 8) (r : Fin 32) (l : Fin 512) :
    qtile (F := F) k hm qw (ix2 r l)
      = FloatOps.subf (FloatOps.sitofp .bf16 (codeByte k (qw (ix3 0 r l)) (hm (ix3 0 r l)))) (Scalar.ofBits .bf16 0x4080#16) := by
  rw [← codeWord_byte k hk]; rfl

/-- Eight copies of one row of scales. -/
def copies (v : FVec F S1x512 .bf16) : FVec F S8x512 .bf16 :=
  concatenate S8x512 0 [⟨S1x512, v⟩, ⟨S1x512, v⟩, ⟨S1x512, v⟩, ⟨S1x512, v⟩, ⟨S1x512, v⟩, ⟨S1x512, v⟩, ⟨S1x512, v⟩, ⟨S1x512, v⟩]
    concatenates_S1x512_S1x512_S1x512_S1x512_S1x512_S1x512_S1x512_S1x512_S8x512_d0

theorem copies_apply (v : FVec F S1x512 .bf16) (r : Fin 8) (l : Fin 512) : copies v (ix2 r l) = v (ix2 0 l) := by
  fin_cases r <;> (unfold copies; pointwise)

/-- One of the two rows of scales of a group. -/
def scaleRow (p : Fin 2) (raw : FVec F S1x1x2x512 .bf16) : FVec F S1x512 .bf16 :=
  shapeCast S1x512 (shapeCast S1x1x512 (rowsOfParity p S1x1x1x512 raw bitcasts_S1x1x2x512_w16_S1x1x1x512_w32)
    shapeCasts_S1x1x1x512_S1x1x512) shapeCasts_S1x1x512_S1x512

theorem scaleRow_apply (p : Fin 2) (raw : FVec F S1x1x2x512 .bf16) (l : Fin 512) :
    scaleRow p raw (ix2 0 l) = raw (ix4 0 0 p l) := by
  fin_cases p <;> (unfold scaleRow; pointwise)

/-- The sixteen rows of weights of a group, as the kernel computes them from the codes of thirty-two rows and the scales. -/
def rowpay (q : FVec F S16x512 .bf16) (raw : FVec F S1x1x2x512 .bf16) : FVec F S16x512 .bf16 :=
  shapeCast S16x512 (mulf q (interleaveRows S16x512 (copies (scaleRow 0 raw)) (copies (scaleRow 1 raw)) bitcasts_S16x512_w16_S8x512_w32))
    shapeCasts_S16x512_S16x512

theorem rowpay_apply (q : FVec F S16x512 .bf16) (raw : FVec F S1x1x2x512 .bf16) (r : Fin 16) (l : Fin 512) :
    rowpay q raw (ix2 r l) = FloatOps.mulf (q (ix2 r l)) (raw (ix4 0 0 ⟨r.val % 2, by omega⟩ l)) := by
  unfold rowpay
  pointwise
  congr 1
  split
  · rename_i h
    rw [copies_apply, scaleRow_apply]
    congr 2; exact Fin.ext h.symm
  · rename_i h
    rw [copies_apply, scaleRow_apply]
    congr 2; exact Fin.ext (by show 1 = r.val % 2; omega)

/-- The first or the last sixteen of thirty-two rows. -/
def half (p : ℕ) (q : FVec F S32x512 .bf16) : FVec F S16x512 .bf16 :=
  match p with
  | 0 => extractStridedSlice S16x512 ![0, 0] q slices_S32x512_o0_0_S16x512
  | _ => extractStridedSlice S16x512 ![16, 0] q slices_S32x512_o16_0_S16x512

theorem half_apply (p : ℕ) (hp : p < 2) (q : FVec F S32x512 .bf16) (r : Fin 16) (l : Fin 512) :
    half p q (ix2 r l) = q (ix2 ⟨16 * p + r.val, by omega⟩ l) := by
  interval_cases p
  · show extractStridedSlice S16x512 ![0, 0] q slices_S32x512_o0_0_S16x512 (ix2 r l) = _
    pointwise
  · show extractStridedSlice S16x512 ![16, 0] q slices_S32x512_o16_0_S16x512 (ix2 r l) = _
    pointwise

/-- The weights of a stripe of eight blocks, from its high bits, its low bits and its scales: row `R` is in block `R / 256`, in
its group `i = R / 16 % 16`, which takes the codes of the rows `16 (i % 2) …` of the bytes at shift `i / 2`. -/
def wspec (A : S8x32x4096.Idx → BitVec 8) (B : S8x64x4096.Idx → BitVec 8) (C : S16x8x2x4096.Idx → F .bf16) :
    S2048x4096.Idx → F .bf16 := fun y =>
  weight ((y 0).val / 16 % 16 / 2)
    (B (ix3 ⟨(y 0).val / 256, by have := ValueIdx.idx2_lt0 y; omega⟩ ⟨32 * ((y 0).val / 16 % 16 / 8) + (16 * ((y 0).val / 16 % 2) + (y 0).val % 16), by omega⟩ (y 1)))
    (A (ix3 ⟨(y 0).val / 256, by have := ValueIdx.idx2_lt0 y; omega⟩ ⟨16 * ((y 0).val / 16 % 2) + (y 0).val % 16, by omega⟩ (y 1)))
    (C (ix4 ⟨(y 0).val / 16 % 16, by omega⟩ ⟨(y 0).val / 256, by have := ValueIdx.idx2_lt0 y; omega⟩ ⟨(y 0).val % 2, by omega⟩ (y 1)))

/-- The sixteen rows of a group of a block, on a tile of 512 lanes, are the rows of the stripe's weights. -/
theorem piece_value (b : Fin 8) (c : Fin 8) (i : Fin 16) (A : S8x32x4096.Idx → BitVec 8) (B : S8x64x4096.Idx → BitVec 8)
    (C : S16x8x2x4096.Idx → F .bf16) (hm qs : IVec S1x32x512 8) (g : FVec F S1x1x2x512 .bf16)
    (hhm : ∀ (r : Fin 32) (l : Fin 512), hm (ix3 0 r l) = A (ix3 b r ⟨512 * c.val + l.val, by omega⟩))
    (hqs : ∀ (r : Fin 32) (l : Fin 512), qs (ix3 0 r l) = B (ix3 b ⟨32 * (i.val / 8) + r.val, by omega⟩ ⟨512 * c.val + l.val, by omega⟩))
    (hg : ∀ (p : Fin 2) (l : Fin 512), g (ix4 0 0 p l) = C (ix4 i b p ⟨512 * c.val + l.val, by omega⟩))
    (r : Fin 16) (l : Fin 512) :
    rowpay (half (i.val % 2) (qtile (i.val / 2) hm qs)) g (ix2 r l)
      = wspec A B C (ix2 ⟨256 * b.val + 16 * i.val + r.val, by omega⟩ ⟨512 * c.val + l.val, by omega⟩) := by
  rw [rowpay_apply, half_apply _ (by omega), qtile_apply _ (by omega), hhm, hqs, hg]
  have e0 : (256 * b.val + 16 * i.val + r.val) / 256 = b.val := by omega
  have e1 : (256 * b.val + 16 * i.val + r.val) / 16 % 16 = i.val := by omega
  have e2 : (256 * b.val + 16 * i.val + r.val) / 16 % 2 = i.val % 2 := by omega
  have e3 : (256 * b.val + 16 * i.val + r.val) % 16 = r.val := by omega
  have e4 : (256 * b.val + 16 * i.val + r.val) % 2 = r.val % 2 := by omega
  unfold wspec weight
  simp only [ix2_0, ix2_1, e0, e1, e2, e3, e4]

/-- The code of a group's scale, less 32: four low bits out of one byte and two high bits out of another. -/
def scaleCode (i : ℕ) (s0 s1 : BitVec 8) : BitVec 32 :=
  ((((s0.setWidth 32).sshiftRight (4 * (i / 8))) &&& 15#32) ||| ((((s1.setWidth 32).sshiftRight (2 * (i / 4))) &&& 3#32) <<< 4)) - 32#32

/-- A group's scale: the block's scale times the group's code less 32, rounded. -/
def scale (i : ℕ) (d : F .f16) (s0 s1 : BitVec 8) : F .bf16 :=
  FloatOps.truncf .bf16 (by decide) (FloatOps.mulf (FloatOps.extf .f32 (by decide) d) (FloatOps.sitofp .f32 (scaleCode i s0 s1)))

/-- A row of bytes of scales, widened. -/
def scaleBytes (v : IVec S1x8x512 8) : IVec S8x512 32 :=
  extui 32 (shapeCast S8x512 v shapeCasts_S1x8x512_S8x512) natLt_8_32

/-- The codes of a group's scales less 32, as the kernel computes them. -/
def scaleCodes (i : ℕ) (s0 s1 : IVec S1x8x512 8) : IVec S8x512 32 :=
  subi (ori (andi (shrsi (scaleBytes s0) (broadcast S8x512 (BitVec.ofNat 32 (4 * (i / 8))))) (broadcast S8x512 15#32))
    (shli (andi (shrsi (scaleBytes s1) (broadcast S8x512 (BitVec.ofNat 32 (2 * (i / 4))))) (broadcast S8x512 3#32)) (broadcast S8x512 4#32)))
    (broadcast S8x512 32#32)

theorem scaleBytes_apply (v : IVec S1x8x512 8) (b : Fin 8) (l : Fin 512) : scaleBytes v (ix2 b l) = (v (ix3 0 b l)).setWidth 32 := by
  unfold scaleBytes
  pointwise

theorem scaleCodes_apply (i : ℕ) (hi : i < 16) (s0 s1 : IVec S1x8x512 8) (b : Fin 8) (l : Fin 512) :
    scaleCodes i s0 s1 (ix2 b l) = scaleCode i (s0 (ix3 0 b l)) (s1 (ix3 0 b l)) := by
  have sh (v : IVec S8x512 32) (n : ℕ) (hn : n < 32) (j : S8x512.Idx) :
      shrsi v (broadcast S8x512 (BitVec.ofNat 32 n)) j = (v j).sshiftRight n := by
    show (if _ then _ else _ : BitVec 32) = _
    have e' : (broadcast S8x512 (BitVec.ofNat 32 n) j).toNat = n := by
      show (BitVec.ofNat 32 n).toNat = _
      rw [BitVec.toNat_ofNat]; omega
    rw [if_pos (by rw [e']; omega), BitVec.sshiftRight', e']
  have sl (v : IVec S8x512 32) (j : S8x512.Idx) : shli v (broadcast S8x512 4#32) j = (v j) <<< 4 := rfl
  show (_ ||| _ : BitVec 32) - 32#32 = _
  rw [sl]
  show ((_ &&& 15#32) ||| ((_ &&& 3#32) <<< 4) : BitVec 32) - 32#32 = _
  rw [sh _ _ (by omega), sh _ _ (by omega), scaleBytes_apply, scaleBytes_apply]
  rfl

/-- The scales of a group for the eight blocks, each twice, as the kernel writes them. -/
def pairRows (g : FVec F S8x512 .bf16) : FVec F S1x8x2x512 .bf16 :=
  interleaveRows S1x8x2x512 (shapeCast S1x8x1x512 (shapeCast S1x8x512 g shapeCasts_S8x512_S1x8x512) shapeCasts_S1x8x512_S1x8x1x512)
    (shapeCast S1x8x1x512 (shapeCast S1x8x512 g shapeCasts_S8x512_S1x8x512) shapeCasts_S1x8x512_S1x8x1x512)
    bitcasts_S1x8x2x512_w16_S1x8x1x512_w32

theorem pairRows_apply (g : FVec F S8x512 .bf16) (b : Fin 8) (p : Fin 2) (l : Fin 512) :
    pairRows g (ix4 0 b p l) = g (ix2 b l) := by
  fin_cases p <;> (unfold pairRows; pointwise)

/-- A group's scales for the eight blocks. -/
def scaleTile (i : ℕ) (d : FVec F S8x512 .f16) (s0 s1 : IVec S1x8x512 8) : FVec F S8x512 .bf16 :=
  truncf .bf16 (mulf (extf .f32 (shapeCast S8x512 d shapeCasts_S8x512_S8x512) bitsLt_f16_f32) (sitofp .f32 (scaleCodes i s0 s1)))

theorem scaleTile_apply (i : ℕ) (hi : i < 16) (d : FVec F S8x512 .f16) (s0 s1 : IVec S1x8x512 8) (b : Fin 8) (l : Fin 512) :
    scaleTile i d s0 s1 (ix2 b l) = scale i (d (ix2 b l)) (s0 (ix3 0 b l)) (s1 (ix3 0 b l)) := by
  unfold scaleTile scale
  rw [← scaleCodes_apply i hi]
  pointwise

/-- The scales of a stripe, from the bytes of the scales and the scales of the blocks. -/
def gspec (S : S12x8x4096.Idx → BitVec 8) (D : S8x4096.Idx → F .f16) : S16x8x2x4096.Idx → F .bf16 := fun y =>
  scale (y 0).val (D (ix2 (y 1) (y 3)))
    (S (ix3 ⟨(y 0).val % 8, by omega⟩ (y 1) (y 3)))
    (S (ix3 ⟨8 + (y 0).val % 4, by omega⟩ (y 1) (y 3)))

/-- The scales that one trip writes for a group are those of the stripe. -/
theorem gpiece_value (c : Fin 8) (i : Fin 16) (S : S12x8x4096.Idx → BitVec 8) (D : S8x4096.Idx → F .f16)
    (d : FVec F S8x512 .f16) (s0 s1 : IVec S1x8x512 8)
    (hd : ∀ (b : Fin 8) (l : Fin 512), d (ix2 b l) = D (ix2 b ⟨512 * c.val + l.val, by omega⟩))
    (h0 : ∀ (b : Fin 8) (l : Fin 512), s0 (ix3 0 b l) = S (ix3 ⟨i.val % 8, by omega⟩ b ⟨512 * c.val + l.val, by omega⟩))
    (h1 : ∀ (b : Fin 8) (l : Fin 512), s1 (ix3 0 b l) = S (ix3 ⟨8 + i.val % 4, by omega⟩ b ⟨512 * c.val + l.val, by omega⟩))
    (b : Fin 8) (p : Fin 2) (l : Fin 512) :
    pairRows (scaleTile i.val d s0 s1) (ix4 0 b p l) = gspec S D (ix4 i b p ⟨512 * c.val + l.val, by omega⟩) := by
  rw [pairRows_apply, scaleTile_apply _ i.isLt, hd, h0, h1]
  rfl

end Cert.KernelIdeal.Hand

end
-- ==== Proof.IPieces.lean ====
/- What the stores of one trip of either loop of `KernelIdeal` write, and where. -/
module

public import proofs.«01_k».proof.Proof.Gen.KernelIdeal.Loops
public import proofs.«01_k».proof.Proof.IClosed
public import proofs.«01_k».proof.Proof.ISpec
public import Idealize.ShloMosaic.Lib.Tactic
public import Idealize.ShloMosaic.Lib.Writes

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Pieces -/

/-- An element of one of the rectangles of a list of writes is written. -/
theorem exists_piece {s : Shape} {e : EltTy} (L : List (View.Piece (Elt F) s e)) (y : s.Idx) (r : Rect s)
    (hr : r ∈ L.map Sigma.fst) (hy : y ∈ r.set) : ∃ p ∈ L, y ∈ p.1.set := by
  obtain ⟨p, hp, rfl⟩ := List.mem_map.mp hr
  exact ⟨p, hp, hy⟩

/-- The rectangles of one trip of the dequantisation, last first. -/
def wRects (t : Fin k0_t2_loop.trips) (inb : ∀ r : Fin 16, ∀ a, k0_off33 t (BitVec.ofNat 32 (16 * r.val)) a + S16x512.size a ≤ S2048x4096.size a) :
    List (Rect S2048x4096) :=
  [15, 14, 13, 12, 11, 10, 9, 8, 7, 6, 5, 4, 3, 2, 1, 0].map fun r : Fin 16 =>
    Rect.unit (s := S2048x4096) (k0_off33 t (BitVec.ofNat 32 (16 * r.val))) S16x512.size (inb r)

theorem all16 (r : Fin 16) : r ∈ [15, 14, 13, 12, 11, 10, 9, 8, 7, 6, 5, 4, 3, 2, 1, (0 : Fin 16)] := by
  revert r; decide

/-- What lies in a rectangle of a trip is of the trip's block and lanes. -/
theorem mem_wRect (t : Fin k0_t2_loop.trips) (r : Fin 16) (inb : ∀ a, k0_off33 t (BitVec.ofNat 32 (16 * r.val)) a + S16x512.size a ≤ S2048x4096.size a)
    (y : S2048x4096.Idx) : y ∈ (Rect.unit (s := S2048x4096) (k0_off33 t (BitVec.ofNat 32 (16 * r.val))) S16x512.size inb).set
      ↔ (y 0).val / 256 * 8 + (y 1).val / 512 = t.val ∧ (y 0).val / 16 % 16 = r.val := by
  have ht : t.val < 64 := Nat.lt_of_lt_of_le t.isLt k0_t2_abs.2.1
  have h0 := ValueIdx.idx2_lt0 y
  have h1 := ValueIdx.idx2_lt1 y
  rw [Rect.mem_set_unit, Fin.forall_fin_two, k0_off33_eq t r]
  show ((256 * (t.val / 8) + 16 * r.val ≤ (y 0).val ∧ (y 0).val < 256 * (t.val / 8) + 16 * r.val + 16)
    ∧ (512 * (t.val % 8) ≤ (y 1).val ∧ (y 1).val < 512 * (t.val % 8) + 512)) ↔ _
  omega

/-- A group's sixteen rows, read from what the trip loaded, are the rows of the stripe's weights. -/
theorem wpiece (t : Fin k0_t2_loop.trips) (i : Fin 16) (p k : ℕ) (hp : p = i.val % 2) (hk : k = i.val / 2) {arg3 : Memref sig .tc .vmem S8x32x4096 .i8}
    {arg4 : Memref sig .tc .vmem S8x64x4096 .i8} {arg9 : Memref sig .tc .vmem S16x8x2x4096 .bf16}
    (X3 : BufTy.Contents (Elt F) arg3.view.ty) (X4 : BufTy.Contents (Elt F) arg4.view.ty) (X9 : BufTy.Contents (Elt F) arg9.view.ty)
    {inb3 : ∀ a, k0_off30 t a + S1x32x512.size a ≤ S8x32x4096.size a}
    (off4 : Fin 3 → ℕ) (inb4 : ∀ a, off4 a + S1x32x512.size a ≤ S8x64x4096.size a) (h4 : off4 = ![t.val / 8, 32 * (i.val / 8), 512 * (t.val % 8)])
    (off9 : Fin 4 → ℕ) (inb9 : ∀ a, off9 a + S1x1x2x512.size a ≤ S16x8x2x4096.size a) (h9 : off9 = ![i.val, t.val / 8, 0, 512 * (t.val % 8)])
    (off8 : Fin 2 → ℕ) (inb8 : ∀ a, off8 a + S16x512.size a ≤ S2048x4096.size a) (h8 : off8 = ![256 * (t.val / 8) + 16 * i.val, 512 * (t.val % 8)])
    (x : S16x512.Idx) :
    rowpay (half p (qtile k
        (View.readAt (Elt F) arg3.view (Rect.unit (s := S8x32x4096) (k0_off30 t) S1x32x512.size inb3).toLoadRect X3)
        (View.readAt (Elt F) arg4.view (Rect.unit (s := S8x64x4096) off4 S1x32x512.size inb4).toLoadRect X4)))
      (View.readAt (Elt F) arg9.view (Rect.unit (s := S16x8x2x4096) off9 S1x1x2x512.size inb9).toLoadRect X9) x
    = wspec (arg3.view.read (Elt F) X3) (arg4.view.read (Elt F) X4) (arg9.view.read (Elt F) X9)
        ((Rect.unit (s := S2048x4096) off8 S16x512.size inb8).emb x) := by
  have ht : t.val < 64 := Nat.lt_of_lt_of_le t.isLt k0_t2_abs.2.1
  subst hp hk
  have h3 := k0_off30_eq t
  generalize k0_off30 t = off3 at h3 inb3
  subst h3 h4 h9 h8
  refine ((congrArg _ (eq_ix2 x)).trans (piece_value ⟨t.val / 8, by omega⟩ ⟨t.val % 8, by omega⟩ i (arg3.view.read (Elt F) X3) (arg4.view.read (Elt F) X4) (arg9.view.read (Elt F) X9) _ _ _ ?_ ?_ ?_ (x 0) (x 1))).trans ?_
  · intro r l
    show arg3.view.read (Elt F) X3 _ = _
    congr 1
    funext a
    match a with
    | ⟨0, _⟩ => exact Fin.ext (by show t.val / 8 + 1 * 0 = t.val / 8; omega)
    | ⟨1, _⟩ => exact Fin.ext (by show 0 + 1 * r.val = r.val; omega)
    | ⟨2, _⟩ => exact Fin.ext (by show 512 * (t.val % 8) + 1 * l.val = 512 * (t.val % 8) + l.val; omega)
  · intro r l
    show arg4.view.read (Elt F) X4 _ = _
    congr 1
    funext a
    match a with
    | ⟨0, _⟩ => exact Fin.ext (by show t.val / 8 + 1 * 0 = t.val / 8; omega)
    | ⟨1, _⟩ => exact Fin.ext (by show 32 * (i.val / 8) + 1 * r.val = 32 * (i.val / 8) + r.val; omega)
    | ⟨2, _⟩ => exact Fin.ext (by show 512 * (t.val % 8) + 1 * l.val = 512 * (t.val % 8) + l.val; omega)
  · intro p l
    show arg9.view.read (Elt F) X9 _ = _
    congr 1
    funext a
    match a with
    | ⟨0, _⟩ => exact Fin.ext (by show i.val + 1 * 0 = i.val; omega)
    | ⟨1, _⟩ => exact Fin.ext (by show t.val / 8 + 1 * 0 = t.val / 8; omega)
    | ⟨2, _⟩ => exact Fin.ext (by show 0 + 1 * p.val = p.val; omega)
    | ⟨3, _⟩ => exact Fin.ext (by show 512 * (t.val % 8) + 1 * l.val = 512 * (t.val % 8) + l.val; omega)
  · congr 1
    funext a
    match a with
    | ⟨0, _⟩ => exact Fin.ext (by show 256 * (t.val / 8) + 16 * i.val + (x 0).val = 256 * (t.val / 8) + 16 * i.val + 1 * (x 0).val; omega)
    | ⟨1, _⟩ => exact Fin.ext (by show 512 * (t.val % 8) + (x 1).val = 512 * (t.val % 8) + 1 * (x 1).val; omega)

/-- The offsets at which trip `t` of the loop of the scales writes the sixteen groups. -/
def goff (t : Fin k0_t1_loop.trips) : Fin 16 → Fin 4 → ℕ :=
  ![k0_off14 t, k0_off15 t, k0_off16 t, k0_off17 t, k0_off18 t, k0_off19 t, k0_off20 t, k0_off21 t, k0_off22 t, k0_off23 t, k0_off24 t, k0_off25 t, k0_off26 t, k0_off27 t, k0_off28 t, k0_off29 t]

theorem goff_eq (t : Fin k0_t1_loop.trips) (i : Fin 16) : goff t i = ![i.val, 0, 0, 512 * t.val] := by
  fin_cases i
  exacts [k0_off14_eq t, k0_off15_eq t, k0_off16_eq t, k0_off17_eq t, k0_off18_eq t, k0_off19_eq t, k0_off20_eq t, k0_off21_eq t, k0_off22_eq t, k0_off23_eq t, k0_off24_eq t, k0_off25_eq t, k0_off26_eq t, k0_off27_eq t, k0_off28_eq t, k0_off29_eq t]

/-- The rectangles of one trip of the loop of the scales, last first. -/
def gRects (t : Fin k0_t1_loop.trips) (inb : ∀ r : Fin 16, ∀ a, goff t r a + S1x8x2x512.size a ≤ S16x8x2x4096.size a) :
    List (Rect S16x8x2x4096) :=
  [15, 14, 13, 12, 11, 10, 9, 8, 7, 6, 5, 4, 3, 2, 1, 0].map fun r : Fin 16 =>
    Rect.unit (s := S16x8x2x4096) (goff t r) S1x8x2x512.size (inb r)

/-- What lies in a rectangle of a trip is of the trip's lanes and of one group. -/
theorem mem_gRect (t : Fin k0_t1_loop.trips) (r : Fin 16) (inb : ∀ a, goff t r a + S1x8x2x512.size a ≤ S16x8x2x4096.size a)
    (y : S16x8x2x4096.Idx) : y ∈ (Rect.unit (s := S16x8x2x4096) (goff t r) S1x8x2x512.size inb).set
      ↔ (y 3).val / 512 = t.val ∧ (y 0).val = r.val := by
  have h1 : (y 1).val < 8 := (y 1).isLt
  have h2 : (y 2).val < 2 := (y 2).isLt
  rw [Rect.mem_set_unit, goff_eq t r]
  constructor
  · intro h
    have h0 : r.val ≤ (y 0).val ∧ (y 0).val < r.val + 1 := h 0
    have h3 : 512 * t.val ≤ (y 3).val ∧ (y 3).val < 512 * t.val + 512 := h 3
    omega
  · intro h a
    match a with
    | ⟨0, _⟩ => show r.val ≤ (y 0).val ∧ (y 0).val < r.val + 1; omega
    | ⟨1, _⟩ => show 0 ≤ (y 1).val ∧ (y 1).val < 0 + 8; omega
    | ⟨2, _⟩ => show 0 ≤ (y 2).val ∧ (y 2).val < 0 + 2; omega
    | ⟨3, _⟩ => show 512 * t.val ≤ (y 3).val ∧ (y 3).val < 512 * t.val + 512; omega

/-- A group's scales, computed from what the trip loaded, are the scales of the stripe. -/
theorem gpiece (t : Fin k0_t1_loop.trips) (i : Fin 16) {arg5 : Memref sig .tc .vmem S12x8x4096 .i8}
    {arg6 : Memref sig .tc .vmem S8x4096 .f16}
    (X5 : BufTy.Contents (Elt F) arg5.view.ty) (X6 : BufTy.Contents (Elt F) arg6.view.ty)
    {inb6 : ∀ a, k0_off1 t a + S8x512.size a ≤ S8x4096.size a}
    (off0 : Fin 3 → ℕ) (inb0 : ∀ a, off0 a + S1x8x512.size a ≤ S12x8x4096.size a) (h0 : off0 = ![i.val % 8, 0, 512 * t.val])
    (off1 : Fin 3 → ℕ) (inb1 : ∀ a, off1 a + S1x8x512.size a ≤ S12x8x4096.size a) (h1 : off1 = ![8 + i.val % 4, 0, 512 * t.val])
    (off9 : Fin 4 → ℕ) (inb9 : ∀ a, off9 a + S1x8x2x512.size a ≤ S16x8x2x4096.size a) (h9 : off9 = ![i.val, 0, 0, 512 * t.val])
    (x : S1x8x2x512.Idx) :
    pairRows (scaleTile i.val (View.readAt (Elt F) arg6.view (Rect.unit (s := S8x4096) (k0_off1 t) S8x512.size inb6).toLoadRect X6)
        (View.readAt (Elt F) arg5.view (Rect.unit (s := S12x8x4096) off0 S1x8x512.size inb0).toLoadRect X5)
        (View.readAt (Elt F) arg5.view (Rect.unit (s := S12x8x4096) off1 S1x8x512.size inb1).toLoadRect X5)) x
    = gspec (arg5.view.read (Elt F) X5) (arg6.view.read (Elt F) X6)
        ((Rect.unit (s := S16x8x2x4096) off9 S1x8x2x512.size inb9).emb x) := by
  have ht : t.val < 8 := Nat.lt_of_lt_of_le t.isLt k0_t1_abs.2.1
  have h6 := k0_off1_eq t
  generalize k0_off1 t = off6 at h6 inb6
  subst h6 h0 h1 h9
  have hx0 : (x 0).val < 1 := (x 0).isLt
  have ex : x = ix4 0 (x 1) (x 2) (x 3) := by
    rw [eq_ix4 x]
    congr 1
    exact Fin.ext (by show (x 0).val = 0; omega)
  refine ((congrArg _ ex).trans (gpiece_value ⟨t.val, ht⟩ i (arg5.view.read (Elt F) X5) (arg6.view.read (Elt F) X6) _ _ _ ?_ ?_ ?_ (x 1) (x 2) (x 3))).trans ?_
  · intro b l
    show arg6.view.read (Elt F) X6 _ = _
    congr 1
    funext a
    match a with
    | ⟨0, _⟩ => exact Fin.ext (by show 0 + 1 * b.val = b.val; omega)
    | ⟨1, _⟩ => exact Fin.ext (by show 512 * t.val + 1 * l.val = 512 * t.val + l.val; omega)
  · intro b l
    show arg5.view.read (Elt F) X5 _ = _
    congr 1
    funext a
    match a with
    | ⟨0, _⟩ => exact Fin.ext (by show i.val % 8 + 1 * 0 = i.val % 8; omega)
    | ⟨1, _⟩ => exact Fin.ext (by show 0 + 1 * b.val = b.val; omega)
    | ⟨2, _⟩ => exact Fin.ext (by show 512 * t.val + 1 * l.val = 512 * t.val + l.val; omega)
  · intro b l
    show arg5.view.read (Elt F) X5 _ = _
    congr 1
    funext a
    match a with
    | ⟨0, _⟩ => exact Fin.ext (by show 8 + i.val % 4 + 1 * 0 = 8 + i.val % 4; omega)
    | ⟨1, _⟩ => exact Fin.ext (by show 0 + 1 * b.val = b.val; omega)
    | ⟨2, _⟩ => exact Fin.ext (by show 512 * t.val + 1 * l.val = 512 * t.val + l.val; omega)
  · congr 1
    funext a
    match a with
    | ⟨0, _⟩ => exact Fin.ext (by show i.val = i.val + 1 * (x 0).val; omega)
    | ⟨1, _⟩ => exact Fin.ext (by show (x 1).val = 0 + 1 * (x 1).val; omega)
    | ⟨2, _⟩ => exact Fin.ext (by show (x 2).val = 0 + 1 * (x 2).val; omega)
    | ⟨3, _⟩ => exact Fin.ext (by show 512 * t.val + (x 3).val = 512 * t.val + 1 * (x 3).val; omega)

end Cert.KernelIdeal.Hand

end
-- ==== Proof.ILoop.lean ====
/- The invariants of the two loops of `KernelIdeal`, with the values that the loops write. -/
module

public import proofs.«01_k».proof.Proof.Gen.KernelIdeal.Loops
public import proofs.«01_k».proof.Proof.IClosed
public import proofs.«01_k».proof.Proof.IPieces
public import Idealize.ShloMosaic.Lib.Tactic
public import Idealize.ShloMosaic.Lib.Writes

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The dequantisation loop -/

/-- Before trip `k`: the high bits, the low bits and the scales at given contents, the weights those of the stripe wherever
an earlier trip has been. -/
abbrev inv_k0_t2 (c : Dev nD) (arg3 : Memref sig .tc .vmem S8x32x4096 .i8) (arg4 : Memref sig .tc .vmem S8x64x4096 .i8)
    (arg8 : Memref sig .tc .vmem S2048x4096 .bf16) (arg9 : Memref sig .tc .vmem S16x8x2x4096 .bf16)
    (X3 : BufTy.Contents (Elt F) arg3.view.ty) (X4 : BufTy.Contents (Elt F) arg4.view.ty) (X9 : BufTy.Contents (Elt F) arg9.view.ty)
    (k : ℕ) (_u : PUnit) : sProp 𝕄 :=
  iprop((arg3.view.loc (c : Thread nD τ) ↦[arg3.view.set]{fullShare} X3) ∗ (arg4.view.loc (c : Thread nD τ) ↦[arg4.view.set]{fullShare} X4) ∗ (arg9.view.loc (c : Thread nD τ) ↦[arg9.view.set]{fullShare} X9)
    ∗ (∃ f, (arg8.view.loc (c : Thread nD τ) ↦[arg8.view.set]{fullShare} f)
        ∗ ⌜∀ y : S2048x4096.Idx, (y 0).val / 256 * 8 + (y 1).val / 512 < k → arg8.view.read (Elt F) f y
            = wspec (arg3.view.read (Elt F) X3) (arg4.view.read (Elt F) X4) (arg9.view.read (Elt F) X9) y⌝))

set_option warn.classDefReducibility false in
/-- A trip of the dequantisation loop writes the weights of its block and lanes. -/
@[sl_loop] def loopInv_k0_t2 (𝒱 : Variants) (c : Dev nD) (bd : Option 𝒱.V) (E : Set ℕ) (i : grid0.Coords) (arg2 : Memref sig .tc .vmem S512x4096 .bf16) (harg2 : arg2.IsWhole) (arg3 : Memref sig .tc .vmem S8x32x4096 .i8) (harg3 : arg3.IsWhole) (arg4 : Memref sig .tc .vmem S8x64x4096 .i8) (harg4 : arg4.IsWhole) (arg5 : Memref sig .tc .vmem S12x8x4096 .i8) (harg5 : arg5.IsWhole) (arg6 : Memref sig .tc .vmem S8x4096 .f16) (harg6 : arg6.IsWhole) (arg7 : Memref sig .tc .vmem S512x2048 .bf16) (harg7 : arg7.IsWhole) (arg8 : Memref sig .tc .vmem S2048x4096 .bf16) (harg8 : arg8.IsWhole) (arg9 : Memref sig .tc .vmem S16x8x2x4096 .bf16) (harg9 : arg9.IsWhole) (k0_h1 : k0_cond1 i = 1#1)
    (X3 : BufTy.Contents (Elt F) arg3.view.ty) (X4 : BufTy.Contents (Elt F) arg4.view.ty) (X9 : BufTy.Contents (Elt F) arg9.view.ty) :
    LoopInvTy_k0_t2 (F := F) Unit ℕ (UR sig nD τ) ℕ 𝒱 c bd E i arg2 harg2 arg3 harg3 arg4 harg4 arg5 harg5 arg6 harg6 arg7 harg7 arg8 harg8 arg9 harg9 k0_h1 where
  inv := inv_k0_t2 (F := F) c arg3 arg4 arg8 arg9 X3 X4 X9
  step k acc := by
    have hk : k.val < 64 := Nat.lt_of_lt_of_le k.isLt k0_t2_abs.2.1
    unfold k0_t2_body
    iintro ⟨H3, H4, H9, ⟨%f, H8, %hf⟩⟩
    sl_exec
    sl_step
    isplitl [H3]; · iexact H3
    isplitl [H4]; · iexact H4
    isplitl [H9]; · iexact H9
    iexists _; isplitl [H8]; · iexact H8
    ipureintro
    intro y hy
    have hmem : ∀ r : Fin 16, _ := fun r => mem_wRect k r (k0_off33_inb i k k0_h1 r) y
    by_cases ht : (y 0).val / 256 * 8 + (y 1).val / 512 = k.val
    · refine View.read_writes_apply_of_pieces _ _ _ _ ?_ y
        (exists_piece _ y _ (List.mem_map_of_mem (f := fun r : Fin 16 => Rect.unit (s := S2048x4096) (k0_off33 k (BitVec.ofNat 32 (16 * r.val))) S16x512.size (k0_off33_inb i k k0_h1 r)) (all16 ⟨(y 0).val / 16 % 16, by omega⟩))
          ((hmem _).mpr ⟨ht, rfl⟩))
      simp only [List.forall_mem_cons, List.not_mem_nil, false_imp_iff, implies_true, and_true]
      refine ⟨?_, ?_, ?_, ?_, ?_, ?_, ?_, ?_, ?_, ?_, ?_, ?_, ?_, ?_, ?_, ?_⟩
      · exact fun x => (congrFun (by rfl) x).trans (wpiece (inb3 := k0_off30_inb i k k0_h1) k 15 1 7 rfl rfl X3 X4 X9 _ (k0_off41_inb i k k0_h1) (k0_off41_eq k)
          _ (k0_off49_inb i k k0_h1) (k0_off49_eq k) _ (k0_off33_inb i k k0_h1 15) (k0_off33_eq k 15) x)
      · exact fun x => (congrFun (by rfl) x).trans (wpiece (inb3 := k0_off30_inb i k k0_h1) k 14 0 7 rfl rfl X3 X4 X9 _ (k0_off41_inb i k k0_h1) (k0_off41_eq k)
          _ (k0_off48_inb i k k0_h1) (k0_off48_eq k) _ (k0_off33_inb i k k0_h1 14) (k0_off33_eq k 14) x)
      · exact fun x => (congrFun (by rfl) x).trans (wpiece (inb3 := k0_off30_inb i k k0_h1) k 13 1 6 rfl rfl X3 X4 X9 _ (k0_off41_inb i k k0_h1) (k0_off41_eq k)
          _ (k0_off47_inb i k k0_h1) (k0_off47_eq k) _ (k0_off33_inb i k k0_h1 13) (k0_off33_eq k 13) x)
      · exact fun x => (congrFun (by rfl) x).trans (wpiece (inb3 := k0_off30_inb i k k0_h1) k 12 0 6 rfl rfl X3 X4 X9 _ (k0_off41_inb i k k0_h1) (k0_off41_eq k)
          _ (k0_off46_inb i k k0_h1) (k0_off46_eq k) _ (k0_off33_inb i k k0_h1 12) (k0_off33_eq k 12) x)
      · exact fun x => (congrFun (by rfl) x).trans (wpiece (inb3 := k0_off30_inb i k k0_h1) k 11 1 5 rfl rfl X3 X4 X9 _ (k0_off41_inb i k k0_h1) (k0_off41_eq k)
          _ (k0_off45_inb i k k0_h1) (k0_off45_eq k) _ (k0_off33_inb i k k0_h1 11) (k0_off33_eq k 11) x)
      · exact fun x => (congrFun (by rfl) x).trans (wpiece (inb3 := k0_off30_inb i k k0_h1) k 10 0 5 rfl rfl X3 X4 X9 _ (k0_off41_inb i k k0_h1) (k0_off41_eq k)
          _ (k0_off44_inb i k k0_h1) (k0_off44_eq k) _ (k0_off33_inb i k k0_h1 10) (k0_off33_eq k 10) x)
      · exact fun x => (congrFun (by rfl) x).trans (wpiece (inb3 := k0_off30_inb i k k0_h1) k 9 1 4 rfl rfl X3 X4 X9 _ (k0_off41_inb i k k0_h1) (k0_off41_eq k)
          _ (k0_off43_inb i k k0_h1) (k0_off43_eq k) _ (k0_off33_inb i k k0_h1 9) (k0_off33_eq k 9) x)
      · exact fun x => (congrFun (by rfl) x).trans (wpiece (inb3 := k0_off30_inb i k k0_h1) k 8 0 4 rfl rfl X3 X4 X9 _ (k0_off41_inb i k k0_h1) (k0_off41_eq k)
          _ (k0_off42_inb i k k0_h1) (k0_off42_eq k) _ (k0_off33_inb i k k0_h1 8) (k0_off33_eq k 8) x)
      · exact fun x => (congrFun (by rfl) x).trans (wpiece (inb3 := k0_off30_inb i k k0_h1) k 7 1 3 rfl rfl X3 X4 X9 _ (k0_off31_inb i k k0_h1) (k0_off31_eq k)
          _ (k0_off40_inb i k k0_h1) (k0_off40_eq k) _ (k0_off33_inb i k k0_h1 7) (k0_off33_eq k 7) x)
      · exact fun x => (congrFun (by rfl) x).trans (wpiece (inb3 := k0_off30_inb i k k0_h1) k 6 0 3 rfl rfl X3 X4 X9 _ (k0_off31_inb i k k0_h1) (k0_off31_eq k)
          _ (k0_off39_inb i k k0_h1) (k0_off39_eq k) _ (k0_off33_inb i k k0_h1 6) (k0_off33_eq k 6) x)
      · exact fun x => (congrFun (by rfl) x).trans (wpiece (inb3 := k0_off30_inb i k k0_h1) k 5 1 2 rfl rfl X3 X4 X9 _ (k0_off31_inb i k k0_h1) (k0_off31_eq k)
          _ (k0_off38_inb i k k0_h1) (k0_off38_eq k) _ (k0_off33_inb i k k0_h1 5) (k0_off33_eq k 5) x)
      · exact fun x => (congrFun (by rfl) x).trans (wpiece (inb3 := k0_off30_inb i k k0_h1) k 4 0 2 rfl rfl X3 X4 X9 _ (k0_off31_inb i k k0_h1) (k0_off31_eq k)
          _ (k0_off37_inb i k k0_h1) (k0_off37_eq k) _ (k0_off33_inb i k k0_h1 4) (k0_off33_eq k 4) x)
      · exact fun x => (congrFun (by rfl) x).trans (wpiece (inb3 := k0_off30_inb i k k0_h1) k 3 1 1 rfl rfl X3 X4 X9 _ (k0_off31_inb i k k0_h1) (k0_off31_eq k)
          _ (k0_off36_inb i k k0_h1) (k0_off36_eq k) _ (k0_off33_inb i k k0_h1 3) (k0_off33_eq k 3) x)
      · exact fun x => (congrFun (by rfl) x).trans (wpiece (inb3 := k0_off30_inb i k k0_h1) k 2 0 1 rfl rfl X3 X4 X9 _ (k0_off31_inb i k k0_h1) (k0_off31_eq k)
          _ (k0_off35_inb i k k0_h1) (k0_off35_eq k) _ (k0_off33_inb i k k0_h1 2) (k0_off33_eq k 2) x)
      · exact fun x => (congrFun (by rfl) x).trans (wpiece (inb3 := k0_off30_inb i k k0_h1) k 1 1 0 rfl rfl X3 X4 X9 _ (k0_off31_inb i k k0_h1) (k0_off31_eq k)
          _ (k0_off34_inb i k k0_h1) (k0_off34_eq k) _ (k0_off33_inb i k k0_h1 1) (k0_off33_eq k 1) x)
      · exact fun x => (congrFun (by rfl) x).trans (wpiece (inb3 := k0_off30_inb i k k0_h1) k 0 0 0 rfl rfl X3 X4 X9 _ (k0_off31_inb i k k0_h1) (k0_off31_eq k)
          _ (k0_off32_inb i k k0_h1) (k0_off32_eq k) _ (k0_off33_inb i k k0_h1 0) (k0_off33_eq k 0) x)
    · rw [View.read_writes_apply_of_forall_not_mem]
      · exact hf y (by omega)
      · intro p hp hyp
        obtain ⟨r, -, hr⟩ := List.mem_map.mp (show p.1 ∈ wRects k (k0_off33_inb i k k0_h1) from List.mem_map_of_mem (f := Sigma.fst) hp)
        rw [← hr] at hyp
        exact ht ((hmem r).mp hyp).1

/-! ## The loop of the scales -/

theorem goff_inb (i : grid0.Coords) (k : Fin k0_t1_loop.trips) (k0_h1 : k0_cond1 i = 1#1) (r : Fin 16) :
    ∀ a, goff k r a + S1x8x2x512.size a ≤ S16x8x2x4096.size a := by
  fin_cases r
  exacts [k0_off14_inb i k k0_h1, k0_off15_inb i k k0_h1, k0_off16_inb i k k0_h1, k0_off17_inb i k k0_h1, k0_off18_inb i k k0_h1, k0_off19_inb i k k0_h1, k0_off20_inb i k k0_h1, k0_off21_inb i k k0_h1, k0_off22_inb i k k0_h1, k0_off23_inb i k k0_h1, k0_off24_inb i k k0_h1, k0_off25_inb i k k0_h1, k0_off26_inb i k k0_h1, k0_off27_inb i k k0_h1, k0_off28_inb i k k0_h1, k0_off29_inb i k k0_h1]

/-- Before trip `k`: the scales of the blocks and the bytes of the scales at given contents, the group scales those of the
stripe wherever an earlier trip has been. -/
abbrev inv_k0_t1 (c : Dev nD) (arg5 : Memref sig .tc .vmem S12x8x4096 .i8) (arg6 : Memref sig .tc .vmem S8x4096 .f16)
    (arg9 : Memref sig .tc .vmem S16x8x2x4096 .bf16)
    (X5 : BufTy.Contents (Elt F) arg5.view.ty) (X6 : BufTy.Contents (Elt F) arg6.view.ty)
    (k : ℕ) (_u : PUnit) : sProp 𝕄 :=
  iprop((arg5.view.loc (c : Thread nD τ) ↦[arg5.view.set]{fullShare} X5) ∗ (arg6.view.loc (c : Thread nD τ) ↦[arg6.view.set]{fullShare} X6)
    ∗ (∃ f, (arg9.view.loc (c : Thread nD τ) ↦[arg9.view.set]{fullShare} f)
        ∗ ⌜∀ y : S16x8x2x4096.Idx, (y 3).val / 512 < k → arg9.view.read (Elt F) f y
            = gspec (arg5.view.read (Elt F) X5) (arg6.view.read (Elt F) X6) y⌝))

set_option warn.classDefReducibility false in
/-- A trip of the loop of the scales writes the scales of its lanes. -/
@[sl_loop] def loopInv_k0_t1 (𝒱 : Variants) (c : Dev nD) (bd : Option 𝒱.V) (E : Set ℕ) (i : grid0.Coords) (arg2 : Memref sig .tc .vmem S512x4096 .bf16) (harg2 : arg2.IsWhole) (arg3 : Memref sig .tc .vmem S8x32x4096 .i8) (harg3 : arg3.IsWhole) (arg4 : Memref sig .tc .vmem S8x64x4096 .i8) (harg4 : arg4.IsWhole) (arg5 : Memref sig .tc .vmem S12x8x4096 .i8) (harg5 : arg5.IsWhole) (arg6 : Memref sig .tc .vmem S8x4096 .f16) (harg6 : arg6.IsWhole) (arg7 : Memref sig .tc .vmem S512x2048 .bf16) (harg7 : arg7.IsWhole) (arg8 : Memref sig .tc .vmem S2048x4096 .bf16) (harg8 : arg8.IsWhole) (arg9 : Memref sig .tc .vmem S16x8x2x4096 .bf16) (harg9 : arg9.IsWhole) (k0_h1 : k0_cond1 i = 1#1)
    (X5 : BufTy.Contents (Elt F) arg5.view.ty) (X6 : BufTy.Contents (Elt F) arg6.view.ty) :
    LoopInvTy_k0_t1 (F := F) Unit ℕ (UR sig nD τ) ℕ 𝒱 c bd E i arg2 harg2 arg3 harg3 arg4 harg4 arg5 harg5 arg6 harg6 arg7 harg7 arg8 harg8 arg9 harg9 k0_h1 where
  inv := inv_k0_t1 (F := F) c arg5 arg6 arg9 X5 X6
  step k acc := by
    have hk : k.val < 8 := Nat.lt_of_lt_of_le k.isLt k0_t1_abs.2.1
    unfold k0_t1_body
    iintro ⟨H5, H6, ⟨%f, H9, %hf⟩⟩
    sl_exec
    sl_step
    isplitl [H5]; · iexact H5
    isplitl [H6]; · iexact H6
    iexists _; isplitl [H9]; · iexact H9
    ipureintro
    intro y hy
    have hmem : ∀ r : Fin 16, _ := fun r => mem_gRect k r (goff_inb i k k0_h1 r) y
    have hy0 : (y 0).val < 16 := (y 0).isLt
    by_cases ht : (y 3).val / 512 = k.val
    · refine View.read_writes_apply_of_pieces _ _ _ _ ?_ y
        (exists_piece _ y _ (List.mem_map_of_mem (f := fun r : Fin 16 => Rect.unit (s := S16x8x2x4096) (goff k r) S1x8x2x512.size (goff_inb i k k0_h1 r)) (all16 ⟨(y 0).val, hy0⟩))
          ((hmem _).mpr ⟨ht, rfl⟩))
      simp only [List.forall_mem_cons, List.not_mem_nil, false_imp_iff, implies_true, and_true]
      refine ⟨?_, ?_, ?_, ?_, ?_, ?_, ?_, ?_, ?_, ?_, ?_, ?_, ?_, ?_, ?_, ?_⟩
      · exact fun x => (congrFun (by rfl) x).trans (gpiece (inb6 := k0_off1_inb i k k0_h1) k 15 X5 X6 _ (k0_off9_inb i k k0_h1) (k0_off9_eq k)
          _ (k0_off13_inb i k k0_h1) (k0_off13_eq k) _ (k0_off29_inb i k k0_h1) (k0_off29_eq k) x)
      · exact fun x => (congrFun (by rfl) x).trans (gpiece (inb6 := k0_off1_inb i k k0_h1) k 14 X5 X6 _ (k0_off8_inb i k k0_h1) (k0_off8_eq k)
          _ (k0_off12_inb i k k0_h1) (k0_off12_eq k) _ (k0_off28_inb i k k0_h1) (k0_off28_eq k) x)
      · exact fun x => (congrFun (by rfl) x).trans (gpiece (inb6 := k0_off1_inb i k k0_h1) k 13 X5 X6 _ (k0_off7_inb i k k0_h1) (k0_off7_eq k)
          _ (k0_off11_inb i k k0_h1) (k0_off11_eq k) _ (k0_off27_inb i k k0_h1) (k0_off27_eq k) x)
      · exact fun x => (congrFun (by rfl) x).trans (gpiece (inb6 := k0_off1_inb i k k0_h1) k 12 X5 X6 _ (k0_off6_inb i k k0_h1) (k0_off6_eq k)
          _ (k0_off10_inb i k k0_h1) (k0_off10_eq k) _ (k0_off26_inb i k k0_h1) (k0_off26_eq k) x)
      · exact fun x => (congrFun (by rfl) x).trans (gpiece (inb6 := k0_off1_inb i k k0_h1) k 11 X5 X6 _ (k0_off5_inb i k k0_h1) (k0_off5_eq k)
          _ (k0_off13_inb i k k0_h1) (k0_off13_eq k) _ (k0_off25_inb i k k0_h1) (k0_off25_eq k) x)
      · exact fun x => (congrFun (by rfl) x).trans (gpiece (inb6 := k0_off1_inb i k k0_h1) k 10 X5 X6 _ (k0_off4_inb i k k0_h1) (k0_off4_eq k)
          _ (k0_off12_inb i k k0_h1) (k0_off12_eq k) _ (k0_off24_inb i k k0_h1) (k0_off24_eq k) x)
      · exact fun x => (congrFun (by rfl) x).trans (gpiece (inb6 := k0_off1_inb i k k0_h1) k 9 X5 X6 _ (k0_off3_inb i k k0_h1) (k0_off3_eq k)
          _ (k0_off11_inb i k k0_h1) (k0_off11_eq k) _ (k0_off23_inb i k k0_h1) (k0_off23_eq k) x)
      · exact fun x => (congrFun (by rfl) x).trans (gpiece (inb6 := k0_off1_inb i k k0_h1) k 8 X5 X6 _ (k0_off2_inb i k k0_h1) (k0_off2_eq k)
          _ (k0_off10_inb i k k0_h1) (k0_off10_eq k) _ (k0_off22_inb i k k0_h1) (k0_off22_eq k) x)
      · exact fun x => (congrFun (by rfl) x).trans (gpiece (inb6 := k0_off1_inb i k k0_h1) k 7 X5 X6 _ (k0_off9_inb i k k0_h1) (k0_off9_eq k)
          _ (k0_off13_inb i k k0_h1) (k0_off13_eq k) _ (k0_off21_inb i k k0_h1) (k0_off21_eq k) x)
      · exact fun x => (congrFun (by rfl) x).trans (gpiece (inb6 := k0_off1_inb i k k0_h1) k 6 X5 X6 _ (k0_off8_inb i k k0_h1) (k0_off8_eq k)
          _ (k0_off12_inb i k k0_h1) (k0_off12_eq k) _ (k0_off20_inb i k k0_h1) (k0_off20_eq k) x)
      · exact fun x => (congrFun (by rfl) x).trans (gpiece (inb6 := k0_off1_inb i k k0_h1) k 5 X5 X6 _ (k0_off7_inb i k k0_h1) (k0_off7_eq k)
          _ (k0_off11_inb i k k0_h1) (k0_off11_eq k) _ (k0_off19_inb i k k0_h1) (k0_off19_eq k) x)
      · exact fun x => (congrFun (by rfl) x).trans (gpiece (inb6 := k0_off1_inb i k k0_h1) k 4 X5 X6 _ (k0_off6_inb i k k0_h1) (k0_off6_eq k)
          _ (k0_off10_inb i k k0_h1) (k0_off10_eq k) _ (k0_off18_inb i k k0_h1) (k0_off18_eq k) x)
      · exact fun x => (congrFun (by rfl) x).trans (gpiece (inb6 := k0_off1_inb i k k0_h1) k 3 X5 X6 _ (k0_off5_inb i k k0_h1) (k0_off5_eq k)
          _ (k0_off13_inb i k k0_h1) (k0_off13_eq k) _ (k0_off17_inb i k k0_h1) (k0_off17_eq k) x)
      · exact fun x => (congrFun (by rfl) x).trans (gpiece (inb6 := k0_off1_inb i k k0_h1) k 2 X5 X6 _ (k0_off4_inb i k k0_h1) (k0_off4_eq k)
          _ (k0_off12_inb i k k0_h1) (k0_off12_eq k) _ (k0_off16_inb i k k0_h1) (k0_off16_eq k) x)
      · exact fun x => (congrFun (by rfl) x).trans (gpiece (inb6 := k0_off1_inb i k k0_h1) k 1 X5 X6 _ (k0_off3_inb i k k0_h1) (k0_off3_eq k)
          _ (k0_off11_inb i k k0_h1) (k0_off11_eq k) _ (k0_off15_inb i k k0_h1) (k0_off15_eq k) x)
      · exact fun x => (congrFun (by rfl) x).trans (gpiece (inb6 := k0_off1_inb i k k0_h1) k 0 X5 X6 _ (k0_off2_inb i k k0_h1) (k0_off2_eq k)
          _ (k0_off10_inb i k k0_h1) (k0_off10_eq k) _ (k0_off14_inb i k k0_h1) (k0_off14_eq k) x)
    · rw [View.read_writes_apply_of_forall_not_mem]
      · exact hf y (by omega)
      · intro p hp hyp
        obtain ⟨r, -, hr⟩ := List.mem_map.mp (show p.1 ∈ gRects k (goff_inb i k k0_h1) from List.mem_map_of_mem (f := Sigma.fst) hp)
        rw [← hr] at hyp
        exact ht ((hmem r).mp hyp).1

end Cert.KernelIdeal.Hand

end
-- ==== Proof.IRun.lean ====
/- What one execution of the kernel's body leaves, at any float values. -/
module

public import proofs.«01_k».proof.Proof.Gen.KernelIdeal.Frame
public import proofs.«01_k».proof.Proof.Gen.KernelIdeal.Skeleton
public import proofs.«01_k».proof.Proof.ILoop
public import Idealize.ShloMosaic.Lib.Claim

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The body's branch conditions -/

/-- The condition under which the body computes the weights of a stripe: the row tile is the first of the stripe. -/
abbrev cond0_0 (i : grid0.Coords) : Prop := k0_cond1 i = 1#1
/-- It holds at the points whose number is a multiple of 18. -/
theorem hcond0_0 : ∀ t : Fin cfg0.N, cond0_0 (grid0.coords t) ↔ t.val % 18 = 0 :=
  (fun t => by
    have ht : t.val < 126 := Nat.lt_of_lt_of_eq t.isLt N_0
    have e0 : (grid0.coords t 0).val = t.val / 18 % 7 := Pipeline.Grid.coords_val t 0 (by decide) rfl
    have e1 : (grid0.coords t 1).val = t.val / 1 % 18 := Pipeline.Grid.coords_val t 1 (by decide) rfl
    simp only [cond0_0, k0_cond1, e0, e1]
    word_cmp
   : ∀ t : Fin grid0.N, cond0_0 (grid0.coords t) ↔ t.val % 18 = 0)

/-! ## What the result block holds -/

/-- The whole result block is written at once. -/
abbrev rOut : Rect S512x2048 := Rect.unit (s := S512x2048) ![0, 0] S512x2048.size inb_S512x2048_S512x2048_0_0

theorem coverOut (p : Vec F S512x2048 .bf16) (y : S512x2048.Idx) :
    ∃ pc ∈ ([⟨rOut, p⟩] : List (View.Piece (Elt F) S512x2048 .bf16)), y ∈ pc.1.set :=
  View.cover_of_tiled [⟨rOut, p⟩] S512x2048.size (by rfl) y

/-- The product of a block of the gradient and the weights of a stripe. -/
def product (x : Vec F S512x4096 .bf16) (w : Vec F S2048x4096 .bf16) : Vec F S512x2048 .bf16 := k0_pay6 x w

/-- A rectangle that is the whole array reads the array. -/
theorem readAt_full {s : Shape} {e : EltTy} {t : Kind} {sp : Space} (a : Memref sig t sp s e) (X : BufTy.Contents (Elt F) a.view.ty)
    (off : Fin s.rank → ℕ) (hoff : ∀ k, off k = 0) (inb : ∀ k, off k + s.size k ≤ s.size k) :
    View.readAt (Elt F) a.view (Rect.unit (s := s) off s.size inb).toLoadRect X = a.view.read (Elt F) X := by
  funext x
  show a.view.read (Elt F) X _ = _
  congr 1
  funext k
  exact Fin.ext (by show off k + 1 * (x k).val = (x k).val; rw [hoff]; omega)

/-- What the store of the whole result block leaves. -/
theorem read_out (a : Memref sig .tc .vmem S512x2048 .bf16) (f : BufTy.Contents (Elt F) a.view.ty) (p : Vec F S512x2048 .bf16) :
    a.view.read (Elt F) (a.view.writes (Elt F) f [⟨rOut, p⟩]) = p := by
  funext y
  obtain ⟨pc, hpc, hy⟩ := coverOut p y
  refine View.read_writes_apply_of_pieces a.view f p _ ?_ y ⟨pc, hpc, hy⟩
  intro q hq x
  obtain rfl := List.mem_singleton.mp hq
  show p x = p _
  congr 1
  funext k
  match k with
  | ⟨0, _⟩ => exact Fin.ext (by show (x 0).val = 0 + 1 * (x 0).val; omega)
  | ⟨1, _⟩ => exact Fin.ext (by show (x 1).val = 0 + 1 * (x 1).val; omega)

/-! ## The body of the kernel -/

theorem trips1 : Scf.trips k0_t1_loop.lb k0_t1_loop.ub k0_t1_loop.st = 8 := by decide

theorem trips2 : Scf.trips k0_t2_loop.lb k0_t2_loop.ub k0_t2_loop.st = 64 := by decide

set_option maxHeartbeats 2000000 in
/-- At the first row tile of a stripe the body computes the weights of the stripe into the scratch array and writes the
product of the gradient's block with them. -/
theorem run_first (c : Dev nD) (i : grid0.Coords) (arg2 : Memref sig .tc .vmem S512x4096 .bf16) (harg2 : arg2.IsWhole) (arg3 : Memref sig .tc .vmem S8x32x4096 .i8) (harg3 : arg3.IsWhole) (arg4 : Memref sig .tc .vmem S8x64x4096 .i8) (harg4 : arg4.IsWhole) (arg5 : Memref sig .tc .vmem S12x8x4096 .i8) (harg5 : arg5.IsWhole) (arg6 : Memref sig .tc .vmem S8x4096 .f16) (harg6 : arg6.IsWhole) (arg7 : Memref sig .tc .vmem S512x2048 .bf16) (harg7 : arg7.IsWhole) (arg8 : Memref sig .tc .vmem S2048x4096 .bf16) (harg8 : arg8.IsWhole) (arg9 : Memref sig .tc .vmem S16x8x2x4096 .bf16) (harg9 : arg9.IsWhole) (hc0 : cond0_0 i) (x0 : Vec F S512x4096 .bf16) (x1 : Vec F S8x32x4096 .i8) (x2 : Vec F S8x64x4096 .i8) (x3 : Vec F S12x8x4096 .i8) (x4 : Vec F S8x4096 .f16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (product x0 (wspec x1 x2 (gspec x3 x4))) ∗ owns (c : Thread nD τ) arg8 fullShare (wspec x1 x2 (gspec x3 x4)) ∗ (∃ d, owns (c : Thread nD τ) arg9 fullShare d)) -∗ K ⟨⟩))
          ⊢ wp frame (wpE (defs₀ (F := F)) Variants.none c none) E (cc0_q3k_dgrad i arg2 harg2 arg3 harg3 arg4 harg4 arg5 harg5 arg6 harg6 arg7 harg7 arg8 harg8 arg9 harg9) K := by
    intro E K
    simp only [cc0_q3k_dgrad_eq_skeleton]; unfold cc0_q3k_dgrad_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    have e9 : arg9.view.read (Elt F) fL0 = gspec x3 x4 := by
      funext y
      have hy : (y 3).val < 4096 := (y 3).isLt
      rw [hL3 y (by rw [trips1]; omega), hf3, hf4]
    have e8 : arg8.view.read (Elt F) fL1 = wspec x1 x2 (gspec x3 x4) := by
      funext y
      have h0 := ValueIdx.idx2_lt0 y
      have h1 := ValueIdx.idx2_lt1 y
      rw [hL8 y (by rw [trips2]; omega), hf1, hf2, e9]
    isplitl [H5]
    · iexists _; isplitr; swap; · iexact H5
      ipureintro
      refine (read_out _ _ _).trans ?_
      unfold product
      congr 1
      · exact (readAt_full _ _ _ (fun k => by fin_cases k <;> rfl) _).trans hf0
      · exact (readAt_full _ _ _ (fun k => by fin_cases k <;> rfl) _).trans e8
    isplitl [HS0]
    · iexists _; isplitr; · ipureintro; exact e8
      iexact HS0
    iexists _, _; isplitr; swap; · iexact HS1
    ipureintro; rfl

set_option maxHeartbeats 2000000 in
/-- At every other row tile of a stripe the body leaves the scratch array as it is and writes the product of the gradient's
block with what it holds. -/
theorem run_next (c : Dev nD) (i : grid0.Coords) (arg2 : Memref sig .tc .vmem S512x4096 .bf16) (harg2 : arg2.IsWhole) (arg3 : Memref sig .tc .vmem S8x32x4096 .i8) (harg3 : arg3.IsWhole) (arg4 : Memref sig .tc .vmem S8x64x4096 .i8) (harg4 : arg4.IsWhole) (arg5 : Memref sig .tc .vmem S12x8x4096 .i8) (harg5 : arg5.IsWhole) (arg6 : Memref sig .tc .vmem S8x4096 .f16) (harg6 : arg6.IsWhole) (arg7 : Memref sig .tc .vmem S512x2048 .bf16) (harg7 : arg7.IsWhole) (arg8 : Memref sig .tc .vmem S2048x4096 .bf16) (harg8 : arg8.IsWhole) (arg9 : Memref sig .tc .vmem S16x8x2x4096 .bf16) (harg9 : arg9.IsWhole) (hc0 : ¬cond0_0 i) (x0 : Vec F S512x4096 .bf16) (x1 : Vec F S8x32x4096 .i8) (x2 : Vec F S8x64x4096 .i8) (x3 : Vec F S12x8x4096 .i8) (x4 : Vec F S8x4096 .f16) (w : Vec F S2048x4096 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare w ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (product x0 w) ∗ owns (c : Thread nD τ) arg8 fullShare w ∗ (∃ d, owns (c : Thread nD τ) arg9 fullShare d)) -∗ K ⟨⟩))
          ⊢ wp frame (wpE (defs₀ (F := F)) Variants.none c none) E (cc0_q3k_dgrad i arg2 harg2 arg3 harg3 arg4 harg4 arg5 harg5 arg6 harg6 arg7 harg7 arg8 harg8 arg9 harg9) K := by
    intro E K
    simp only [cc0_q3k_dgrad_eq_skeleton]; unfold cc0_q3k_dgrad_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      refine (read_out _ _ _).trans ?_
      unfold product
      congr 1
      · exact (readAt_full _ _ _ (fun k => by fin_cases k <;> rfl) _).trans (harg2.read_unread _)
      · exact (readAt_full _ _ _ (fun k => by fin_cases k <;> rfl) _).trans (harg8.read_unread _)
    isplitl [HS0]
    · iexists _; isplitr; · ipureintro; exact harg8.read_unread _
      iexact HS0
    iexists _, _; isplitr; swap; · iexact HS1
    ipureintro; rfl

end Cert.KernelIdeal.Hand

end
-- ==== Proof.IBlocks.lean ====
/- The blocks the kernel reads at a point of its grid, and the array it writes block by block. -/
module

public import proofs.«01_k».proof.Proof.Gen.KernelIdeal.Frame
public import proofs.«01_k».proof.Proof.Gen.KernelIdeal.Skeleton
public import proofs.«01_k».proof.Proof.IRun
public import Idealize.ShloMosaic.Lib.Claim

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

open Idealize.ShloMosaic.ValueIdx (idx2_lt0 idx2_lt1)

/-! ## The stripes and row tiles of the arrays -/

/-- The stripe of a point of the grid. -/
def stripe (t : Fin cfg0.N) : Fin 7 := ⟨t.val / 18, by have := lt_of_lt_of_eq t.isLt (show cfg0.N = 126 from N_0); omega⟩

/-- The row tile of a point of the grid. -/
def rowTile (t : Fin cfg0.N) : Fin 18 := ⟨t.val % 18, Nat.mod_lt _ (by decide)⟩

theorem coord0 (t : Fin cfg0.N) : (grid0.coords t 0).val = (stripe t).val := by
  have ht : t.val < 126 := lt_of_lt_of_eq t.isLt (show cfg0.N = 126 from N_0)
  refine (Pipeline.Grid.coords_val t 0 (by decide) rfl : _ = t.val / 18 % 7).trans ?_
  show _ = t.val / 18
  omega

theorem coord1 (t : Fin cfg0.N) : (grid0.coords t 1).val = (rowTile t).val := by
  refine (Pipeline.Grid.coords_val t 1 (by decide) rfl : _ = t.val / 1 % 18).trans ?_
  show _ = t.val % 18
  omega

/-- Row tile `i` of the gradient: its 512 rows. -/
def rowsOf {α : Type} (A : S9216x4096.Idx → α) (i : Fin 18) : S512x4096.Idx → α := fun y =>
  A (ix2 ⟨512 * i.val + (y 0).val, by have := (y 0).isLt; have : S512x4096.size 0 = 512 := rfl; omega⟩ (y 1))

/-- Stripe `s` of the high bits: its 8 blocks. -/
def highOf {α : Type} (A : S56x32x4096.Idx → α) (s : Fin 7) : S8x32x4096.Idx → α := fun y =>
  A (ix3 ⟨8 * s.val + (y 0).val, by have := (y 0).isLt; have : S8x32x4096.size 0 = 8 := rfl; omega⟩ (y 1) (y 2))

/-- Stripe `s` of the low bits: its 8 blocks. -/
def lowOf {α : Type} (A : S56x64x4096.Idx → α) (s : Fin 7) : S8x64x4096.Idx → α := fun y =>
  A (ix3 ⟨8 * s.val + (y 0).val, by have := (y 0).isLt; have : S8x64x4096.size 0 = 8 := rfl; omega⟩ (y 1) (y 2))

/-- Stripe `s` of the scale bytes: its 8 blocks. -/
def scalesOf {α : Type} (A : S12x56x4096.Idx → α) (s : Fin 7) : S12x8x4096.Idx → α := fun y =>
  A (ix3 (y 0) ⟨8 * s.val + (y 1).val, by have := (y 1).isLt; have : S12x8x4096.size 1 = 8 := rfl; omega⟩ (y 2))

/-- Stripe `s` of the block scales: its 8 blocks. -/
def superOf {α : Type} (A : S56x4096.Idx → α) (s : Fin 7) : S8x4096.Idx → α := fun y =>
  A (ix2 ⟨8 * s.val + (y 0).val, by have := (y 0).isLt; have : S8x4096.size 0 = 8 := rfl; omega⟩ (y 1))

/-! ## The blocks a point reads -/

theorem word (n : ℕ) (h : n < 4294967296) : (BitVec.ofNat 32 n).toNat = n := by
  rw [BitVec.toNat_ofNat]; exact Nat.mod_eq_of_lt h

theorem iblk_0 (c : Dev nD) (t : Fin cfg0.N) : iblk m c 0 t = rowsOf (V m c main_v0) (rowTile t) := by
  have e := coord1 t
  have l := (rowTile t).isLt
  funext y
  show V m c main_v0 ((win0_0.rect t).emb y) = V m c main_v0 _
  congr 1
  funext a
  apply Fin.ext
  refine (Pipeline.Window.rect_emb_val win0_0 t y a).trans ?_
  match a with
  | ⟨0, _⟩ => show (BitVec.ofNat 32 (grid0.coords t 1).val).toNat * 512 + (y 0).val = 512 * _ + (y 0).val; rw [word _ (by omega)]; omega
  | ⟨1, _⟩ => show (0#32 : BitVec 32).toNat * 4096 + (y 1).val = (y 1).val; simp

theorem iblk_1 (c : Dev nD) (t : Fin cfg0.N) : iblk m c 1 t = highOf (V m c main_v1) (stripe t) := by
  have e := coord0 t
  have l := (stripe t).isLt
  funext y
  show V m c main_v1 ((win0_1.rect t).emb y) = V m c main_v1 _
  congr 1
  funext a
  apply Fin.ext
  refine (Pipeline.Window.rect_emb_val win0_1 t y a).trans ?_
  match a with
  | ⟨0, _⟩ => show (BitVec.ofNat 32 (grid0.coords t 0).val).toNat * 8 + (y 0).val = 8 * _ + (y 0).val; rw [word _ (by omega)]; omega
  | ⟨1, _⟩ => show (0#32 : BitVec 32).toNat * 32 + (y 1).val = (y 1).val; simp
  | ⟨2, _⟩ => show (0#32 : BitVec 32).toNat * 4096 + (y 2).val = (y 2).val; simp

theorem iblk_2 (c : Dev nD) (t : Fin cfg0.N) : iblk m c 2 t = lowOf (V m c main_v2) (stripe t) := by
  have e := coord0 t
  have l := (stripe t).isLt
  funext y
  show V m c main_v2 ((win0_2.rect t).emb y) = V m c main_v2 _
  congr 1
  funext a
  apply Fin.ext
  refine (Pipeline.Window.rect_emb_val win0_2 t y a).trans ?_
  match a with
  | ⟨0, _⟩ => show (BitVec.ofNat 32 (grid0.coords t 0).val).toNat * 8 + (y 0).val = 8 * _ + (y 0).val; rw [word _ (by omega)]; omega
  | ⟨1, _⟩ => show (0#32 : BitVec 32).toNat * 64 + (y 1).val = (y 1).val; simp
  | ⟨2, _⟩ => show (0#32 : BitVec 32).toNat * 4096 + (y 2).val = (y 2).val; simp

theorem iblk_3 (c : Dev nD) (t : Fin cfg0.N) : iblk m c 3 t = scalesOf (V m c main_v3) (stripe t) := by
  have e := coord0 t
  have l := (stripe t).isLt
  funext y
  show V m c main_v3 ((win0_3.rect t).emb y) = V m c main_v3 _
  congr 1
  funext a
  apply Fin.ext
  refine (Pipeline.Window.rect_emb_val win0_3 t y a).trans ?_
  match a with
  | ⟨0, _⟩ => show (0#32 : BitVec 32).toNat * 12 + (y 0).val = (y 0).val; simp
  | ⟨1, _⟩ => show (BitVec.ofNat 32 (grid0.coords t 0).val).toNat * 8 + (y 1).val = 8 * _ + (y 1).val; rw [word _ (by omega)]; omega
  | ⟨2, _⟩ => show (0#32 : BitVec 32).toNat * 4096 + (y 2).val = (y 2).val; simp

theorem iblk_4 (c : Dev nD) (t : Fin cfg0.N) : iblk m c 4 t = superOf (V m c main_v4) (stripe t) := by
  have e := coord0 t
  have l := (stripe t).isLt
  funext y
  show V m c main_v4 ((win0_4.rect t).emb y) = V m c main_v4 _
  congr 1
  funext a
  apply Fin.ext
  refine (Pipeline.Window.rect_emb_val win0_4 t y a).trans ?_
  match a with
  | ⟨0, _⟩ => show (BitVec.ofNat 32 (grid0.coords t 0).val).toNat * 8 + (y 0).val = 8 * _ + (y 0).val; rw [word _ (by omega)]; omega
  | ⟨1, _⟩ => show (0#32 : BitVec 32).toNat * 4096 + (y 1).val = (y 1).val; simp

/-! ## The weights of a stripe, and the result -/

/-- The weights of stripe `s`. -/
def stripeWeights (c : Dev nD) (s : Fin 7) : Vec F S2048x4096 .bf16 :=
  wspec (highOf (V m c main_v1) s) (lowOf (V m c main_v2) s) (gspec (scalesOf (V m c main_v3) s) (superOf (V m c main_v4) s))

/-- The block of the result at row tile `i` of stripe `s`. -/
def resultBlock (c : Dev nD) (i : Fin 18) (s : Fin 7) : Vec F S512x2048 .bf16 :=
  product (rowsOf (V m c main_v0) i) (stripeWeights m c s)

/-- The whole result: every entry is the entry of its block. -/
def result (c : Dev nD) : S9216x14336.Idx → Elt F .bf16 := fun x =>
  resultBlock m c ⟨(x 0).val / 512, by have := idx2_lt0 x; omega⟩ ⟨(x 1).val / 2048, by have := idx2_lt1 x; omega⟩
    (ix2 ⟨(x 0).val % 512, Nat.mod_lt _ (by decide)⟩ ⟨(x 1).val % 2048, Nat.mod_lt _ (by decide)⟩)

theorem emb_5_0 (t : Fin cfg0.N) (y : S512x2048.Idx) : ((win0_5.rect t).emb y 0 : Nat) = 512 * (rowTile t).val + (y 0).val := by
  have e := coord1 t
  have l := (rowTile t).isLt
  refine (Pipeline.Window.rect_emb_val win0_5 t y 0).trans ?_
  show (BitVec.ofNat 32 (grid0.coords t 1).val).toNat * 512 + (y 0).val = 512 * _ + (y 0).val; rw [word _ (by omega)]; omega

theorem emb_5_1 (t : Fin cfg0.N) (y : S512x2048.Idx) : ((win0_5.rect t).emb y 1 : Nat) = 2048 * (stripe t).val + (y 1).val := by
  have e := coord0 t
  have l := (stripe t).isLt
  refine (Pipeline.Window.rect_emb_val win0_5 t y 1).trans ?_
  show (BitVec.ofNat 32 (grid0.coords t 0).val).toNat * 2048 + (y 1).val = 2048 * _ + (y 1).val; rw [word _ (by omega)]; omega

/-- The block of the result a point writes. -/
theorem result_block (c : Dev nD) (t : Fin cfg0.N) (y : S512x2048.Idx) :
    result m c ((win0_5.rect t).emb y) = resultBlock m c (rowTile t) (stripe t) y := by
  have h0 := emb_5_0 t y
  have h1 := emb_5_1 t y
  have l0 := idx2_lt0 y
  have l1 := idx2_lt1 y
  unfold result
  have e0 : (⟨((win0_5.rect t).emb y 0 : Nat) / 512, by have := (rowTile t).isLt; omega⟩ : Fin 18) = rowTile t := Fin.ext (by simp only; omega)
  have e1 : (⟨((win0_5.rect t).emb y 1 : Nat) / 2048, by have := (stripe t).isLt; omega⟩ : Fin 7) = stripe t := Fin.ext (by simp only; omega)
  have e2 : (ix2 (⟨((win0_5.rect t).emb y 0 : Nat) % 512, Nat.mod_lt _ (by decide)⟩ : Fin 512) (⟨((win0_5.rect t).emb y 1 : Nat) % 2048, Nat.mod_lt _ (by decide)⟩ : Fin 2048) : S512x2048.Idx) = y := by
    refine Eq.trans ?_ (eq_ix2 y).symm
    congr 1
    · exact Fin.ext (by simp only; omega)
    · exact Fin.ext (by simp only; omega)
  exact (congrFun (congrArg₂ (resultBlock m c) e0 e1) _).trans (congrArg _ e2)

/-- Every entry of the result is in the block of some point. -/
theorem result_cover (x : S9216x14336.Idx) : ∃ (t : Fin cfg0.N) (y : S512x2048.Idx), (win0_5.rect t).emb y = x := by
  have l0 := idx2_lt0 x
  have l1 := idx2_lt1 x
  have hN : cfg0.N = 126 := N_0
  refine ⟨⟨(x 1).val / 2048 * 18 + (x 0).val / 512, by omega⟩, ix2 (⟨(x 0).val % 512, Nat.mod_lt _ (by decide)⟩ : Fin 512) (⟨(x 1).val % 2048, Nat.mod_lt _ (by decide)⟩ : Fin 2048), ?_⟩
  generalize ht : (⟨(x 1).val / 2048 * 18 + (x 0).val / 512, by omega⟩ : Fin cfg0.N) = t
  have hv : t.val = (x 1).val / 2048 * 18 + (x 0).val / 512 := by rw [← ht]
  have er : (rowTile t).val = (x 0).val / 512 := by show t.val % 18 = _; omega
  have es : (stripe t).val = (x 1).val / 2048 := by show t.val / 18 = _; omega
  funext a
  apply Fin.ext
  match a with
  | ⟨0, _⟩ => refine (emb_5_0 t _).trans ?_; show 512 * (rowTile t).val + (x 0).val % 512 = (x 0).val; omega
  | ⟨1, _⟩ => refine (emb_5_1 t _).trans ?_; show 2048 * (stripe t).val + (x 1).val % 2048 = (x 1).val; omega

end Cert.KernelIdeal.Hand

end
-- ==== Proof.IFrame.lean ====
/- The runs of the kernel: every one ends, with the arguments unchanged and the result array the one named. -/
module

public import proofs.«01_k».proof.Proof.Gen.KernelIdeal.Frame
public import proofs.«01_k».proof.Proof.Gen.KernelIdeal.Skeleton
public import proofs.«01_k».proof.Proof.IBlocks
public import Idealize.ShloMosaic.Lib.Claim

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with -/

abbrev ms0_0 (t : Fin cfg0.N) : Memref sig .tc .vmem S512x4096 .bf16 := win0_0.stage (cfg0.slots t 0)
abbrev ms0_1 (t : Fin cfg0.N) : Memref sig .tc .vmem S8x32x4096 .i8 := win0_1.stage (cfg0.slots t 1)
abbrev ms0_2 (t : Fin cfg0.N) : Memref sig .tc .vmem S8x64x4096 .i8 := win0_2.stage (cfg0.slots t 2)
abbrev ms0_3 (t : Fin cfg0.N) : Memref sig .tc .vmem S12x8x4096 .i8 := win0_3.stage (cfg0.slots t 3)
abbrev ms0_4 (t : Fin cfg0.N) : Memref sig .tc .vmem S8x4096 .f16 := win0_4.stage (cfg0.slots t 4)
abbrev ms0_5 (t : Fin cfg0.N) : Memref sig .tc .vmem S512x2048 .bf16 := win0_5.stage (cfg0.slots t 5)

/-- The scratch array of the weights of a stripe. -/
abbrev scM0_0 : Memref sig .tc .vmem S2048x4096 .bf16 := Memref.whole cc0_scratch0
/-- The scratch array of the group scales of a stripe. -/
abbrev scM0_1 : Memref sig .tc .vmem S16x8x2x4096 .bf16 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What holds between two points -/

/-- After `n` points the weight scratch holds the weights of the stripe of the last of them; the other scratch array and the
generator register hold anything. -/
def scInv (c : Dev nD) (n : ℕ) : sProp 𝕄 :=
  iprop(iprop((∃ d, owns (c : Thread nD τ) scM0_0 fullShare d ∗ ⌜∀ t : Fin cfg0.N, t.val + 1 = n → d = stripeWeights m c (stripe t)⌝)
    ∗ (∃ d, owns (c : Thread nD τ) scM0_1 fullShare d)) ∗ (∃ r, prngReg c r))

theorem scInv_in (c : Dev nD) : (Pipeline.ΦA spec0 c : sProp 𝕄) ⊢ scInv m c 0 := by
  rw [PhiA0_eq]
  unfold scInv
  iintro ⟨⟨⟨%d, HS0⟩, HS1⟩, Hg⟩
  isplitl [HS0 HS1]
  · isplitl [HS0]
    · iexists d
      isplitl [HS0]; · iexact HS0
      ipureintro
      intro t ht
      exact absurd ht (Nat.succ_ne_zero _)
    iexact HS1
  iexact Hg

theorem scInv_out (c : Dev nD) (n : ℕ) : scInv m c n ⊢ (Pipeline.ΦA spec0 c : sProp 𝕄) := by
  rw [PhiA0_eq]
  unfold scInv
  iintro ⟨⟨⟨%d, HS0, -⟩, HS1⟩, Hg⟩
  isplitl [HS0 HS1]
  · isplitl [HS0]
    · iexists d; iexact HS0
    iexact HS1
  iexact Hg

/-! ## The proof data of the pipeline -/

/-- After the body at a point each input's buffer holds its block and the result's holds the block of the result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => resultBlock m c (rowTile t) (stripe t)
  Φ t := scInv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = resultBlock m c (rowTile t) (stripe t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem Phi_castSucc (c : Dev nD) (t : Fin cfg0.N) : (dats m 0 c).Φ t.castSucc = scInv m c t.val := by dsimp only [dats]; rfl
theorem Phi_succ (c : Dev nD) (t : Fin cfg0.N) : (dats m 0 c).Φ t.succ = scInv m c (t.val + 1) := by dsimp only [dats]; rfl

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The weights of the stripe of a point, from the blocks the point reads. -/
theorem weights_of_blocks (c : Dev nD) (t : Fin cfg0.N) :
    wspec (iblk m c 1 t) (iblk m c 2 t) (gspec (iblk m c 3 t) (iblk m c 4 t)) = stripeWeights m c (stripe t) := by
  unfold stripeWeights
  rw [← iblk_1, ← iblk_2, ← iblk_3, ← iblk_4]

set_option maxHeartbeats 1600000 in
/-- The body at any point, by cases: the first row tile of a stripe computes the weights, every other finds those of the point
before, whose stripe is the same. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, Phi_castSucc, Phi_succ]
  unfold scInv
  have hN : t.val < 126 := lt_of_lt_of_eq t.isLt (show cfg0.N = 126 from N_0)
  have hp : product (iblk m c 0 t) (stripeWeights m c (stripe t)) = resultBlock m c (rowTile t) (stripe t) := by
    unfold resultBlock; rw [← iblk_0]
  by_cases h0 : t.val % 18 = 0
  · iintro ⟨⟨⟨⟨%d, HS0, -⟩, HS1⟩, Hg⟩, Ho, ⟨%d0, H0⟩, ⟨%d1, H1⟩, ⟨%d2, H2⟩, ⟨%d3, H3⟩, ⟨%d4, H4⟩, ⟨%d5, H5⟩⟩
    have key := run_first (F := F) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) (Memref.whole cc0_scratch0) (Memref.isWhole_whole _) (Memref.whole cc0_scratch1) (Memref.isWhole_whole _) ((hcond0_0 t).mpr h0) (iblk m c 0 t) (iblk m c 1 t) (iblk m c 2 t) (iblk m c 3 t) (iblk m c 4 t) Set.univ
    rw [weights_of_blocks, hp] at key
    iapply (key _)
    isplitl [H0]; · iexact H0
    isplitl [H1]; · iexact H1
    isplitl [H2]; · iexact H2
    isplitl [H3]; · iexact H3
    isplitl [H4]; · iexact H4
    isplitl [H5]; · iexists _; iexact H5
    isplitl [HS0]; · iexists _; iexact HS0
    isplitl [HS1]; · iexact HS1
    iintro ⟨H0, H1, H2, H3, H4, H5, HS0, HS1⟩
    isplitl [HS0 HS1 Hg]
    · isplitl [HS0 HS1]
      · isplitl [HS0]
        · iexists _
          isplitl [HS0]; · iexact HS0
          ipureintro
          intro t' ht'
          rw [show t' = t from Fin.ext (by omega)]
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5
  · iintro ⟨⟨⟨⟨%d, HS0, %hd⟩, HS1⟩, Hg⟩, Ho, ⟨%d0, H0⟩, ⟨%d1, H1⟩, ⟨%d2, H2⟩, ⟨%d3, H3⟩, ⟨%d4, H4⟩, ⟨%d5, H5⟩⟩
    have hd' : d = stripeWeights m c (stripe t) := by
      refine (hd ⟨t.val - 1, by omega⟩ (by show t.val - 1 + 1 = t.val; omega)).trans ?_
      congr 1
      exact Fin.ext (by show (t.val - 1) / 18 = t.val / 18; omega)
    have key := run_next (F := F) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) (Memref.whole cc0_scratch0) (Memref.isWhole_whole _) (Memref.whole cc0_scratch1) (Memref.isWhole_whole _) (fun h => h0 ((hcond0_0 t).mp h)) (iblk m c 0 t) (iblk m c 1 t) (iblk m c 2 t) (iblk m c 3 t) (iblk m c 4 t) d Set.univ
    rw [hd', hp] at key
    rw [hd']
    iapply (key _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexists _
          isplitl [HS0]; · iexact HS0
          ipureintro
          intro t' ht'
          rw [show t' = t from Fin.ext (by omega)]
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every run of the program ends with the arrays the proof data says and every semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => scInv_in m c) (hout := fun c => scInv_out m c _)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- Every run ends, with the arguments as they began and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-- The result array after the run. -/
theorem result_array (c : Dev nD) : (dats m 0 c).arrAt 5 cfg0.N = result m c := by
  refine Dat.arrAt_eq_of_cover _ 5 _ ?_ ?_
  · intro t _
    refine Eq.trans (b := (dats m 0 c).after 5 t) rfl ?_
    rw [after0_5]
    funext y
    exact (result_block m c t y).symm
  · intro x
    obtain ⟨t, y, h⟩ := result_cover x
    refine ⟨t, flush0_5 t, ?_⟩
    rw [← h]
    exact View.emb_mem_set ((cfg0.win 5).blk t).view y

/-- Every run ends with the result in its array and the arguments as they began. -/
theorem run_result : θ_run defs (onTc (τ := τ) (main (F := F))) ⟨m, fun _ => 0, ρ⟩ (fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 5).trans (result_array m c), h.2 c⟩) (θ_run_and (run_main m ρ) (unchanged m ρ))

end Cert.KernelIdeal.Hand

end
-- ==== Proof.IValue.lean ====
/- The entries of the weights and of the result of the kernel, in terms of its arguments. -/
module

public import proofs.«01_k».proof.Proof.Gen.KernelIdeal.Frame
public import proofs.«01_k».proof.Proof.Gen.KernelIdeal.Skeleton
public import proofs.«01_k».proof.Proof.IFrame
public import Idealize.ShloMosaic.Lib.Claim
public import Idealize.ShloMosaic.Lib.Pointwise
public import Idealize.ShloMosaic.Lib.StableHlo.ReadAt

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The arrays that the kernel is launched on -/

/-- The gradient as the kernel is launched on it, its first two axes joined. -/
theorem V_v0 (c : Dev nD) (r : Fin 9216) (o : Fin 4096) :
    V m c main_v0 (ix2 r o) = m (c.tc.loc main_arg0) (ix3 (⟨r.val / 768, by omega⟩ : Fin 12) (⟨r.val % 768, by omega⟩ : Fin 768) o) := by
  show StableHlo.after hostOps0 (fun b => m (c, b)) (Proc.devRef .tc main_v0) _ = _
  generalize hV : (fun b => m (c, b) : Valuation τ sig (Elt F)) = W
  have e : m (c.tc.loc main_arg0) = W (Proc.devRef .tc main_arg0) := by rw [← hV]
  rw [e]
  clear e hV
  after_reads_at

/-- The high bits as the kernel is launched on them, the output axis last. -/
theorem V_v1 (c : Dev nD) (a : Fin 56) (b : Fin 32) (o : Fin 4096) :
    V m c main_v1 (ix3 a b o) = m (c.tc.loc main_arg1) (ix3 o a b) := by
  show StableHlo.after hostOps0 (fun b => m (c, b)) (Proc.devRef .tc main_v1) _ = _
  generalize hV : (fun b => m (c, b) : Valuation τ sig (Elt F)) = W
  have e : m (c.tc.loc main_arg1) = W (Proc.devRef .tc main_arg1) := by rw [← hV]
  rw [e]
  clear e hV
  after_reads_at

/-- The low bits as the kernel is launched on them, the output axis last. -/
theorem V_v2 (c : Dev nD) (a : Fin 56) (b : Fin 64) (o : Fin 4096) :
    V m c main_v2 (ix3 a b o) = m (c.tc.loc main_arg2) (ix3 o a b) := by
  show StableHlo.after hostOps0 (fun b => m (c, b)) (Proc.devRef .tc main_v2) _ = _
  generalize hV : (fun b => m (c, b) : Valuation τ sig (Elt F)) = W
  have e : m (c.tc.loc main_arg2) = W (Proc.devRef .tc main_arg2) := by rw [← hV]
  rw [e]
  clear e hV
  after_reads_at

/-- The bytes of the scales as the kernel is launched on them, their axes reversed. -/
theorem V_v3 (c : Dev nD) (s : Fin 12) (a : Fin 56) (o : Fin 4096) :
    V m c main_v3 (ix3 s a o) = m (c.tc.loc main_arg3) (ix3 o a s) := by
  show StableHlo.after hostOps0 (fun b => m (c, b)) (Proc.devRef .tc main_v3) _ = _
  generalize hV : (fun b => m (c, b) : Valuation τ sig (Elt F)) = W
  have e : m (c.tc.loc main_arg3) = W (Proc.devRef .tc main_arg3) := by rw [← hV]
  rw [e]
  clear e hV
  after_reads_at

/-- The scales of the blocks as the kernel is launched on them, transposed. -/
theorem V_v4 (c : Dev nD) (a : Fin 56) (o : Fin 4096) :
    V m c main_v4 (ix2 a o) = m (c.tc.loc main_arg4) (ix2 o a) := by
  show StableHlo.after hostOps0 (fun b => m (c, b)) (Proc.devRef .tc main_v4) _ = _
  generalize hV : (fun b => m (c, b) : Valuation τ sig (Elt F)) = W
  have e : m (c.tc.loc main_arg4) = W (Proc.devRef .tc main_arg4) := by rw [← hV]
  rw [e]
  clear e hV
  after_reads_at

/-! ## The weights in terms of the arguments -/

/-- The scale of group `i` of block `a` of output `o`. -/
def groupScale (A3 : S4096x56x12.Idx → BitVec 8) (A4 : S4096x56.Idx → F .f16) (o : Fin 4096) (a : Fin 56) (i : Fin 16) : F .bf16 :=
  scale i.val (A4 (ix2 o a)) (A3 (ix3 o a ⟨i.val % 8, by omega⟩)) (A3 (ix3 o a ⟨8 + i.val % 4, by omega⟩))

/-- The weight of output `o` and input `n`, of which `n / 256` is the block and `n / 16 % 16` the group of the block. -/
def entryWeight (A1 : S4096x56x32.Idx → BitVec 8) (A2 : S4096x56x64.Idx → BitVec 8) (A3 : S4096x56x12.Idx → BitVec 8)
    (A4 : S4096x56.Idx → F .f16) (o : Fin 4096) (n : Fin 14336) : F .bf16 :=
  weight (n.val / 16 % 16 / 2)
    (A2 (ix3 o ⟨n.val / 256, by omega⟩ ⟨32 * (n.val / 16 % 16 / 8) + (16 * (n.val / 16 % 2) + n.val % 16), by omega⟩))
    (A1 (ix3 o ⟨n.val / 256, by omega⟩ ⟨16 * (n.val / 16 % 2) + n.val % 16, by omega⟩))
    (groupScale A3 A4 o ⟨n.val / 256, by omega⟩ ⟨n.val / 16 % 16, by omega⟩)

/-- The weights of stripe `s` are those of the inputs from `2048 s` on. -/
theorem stripeWeights_apply (c : Dev nD) (s : Fin 7) (R : Fin 2048) (o : Fin 4096) :
    stripeWeights m c s (ix2 R o)
      = entryWeight (m (c.tc.loc main_arg1)) (m (c.tc.loc main_arg2)) (m (c.tc.loc main_arg3)) (m (c.tc.loc main_arg4)) o
          ⟨2048 * s.val + R.val, by omega⟩ := by
  have e0 : (2048 * s.val + R.val) / 256 = 8 * s.val + R.val / 256 := by omega
  have e1 : (2048 * s.val + R.val) / 16 % 16 = R.val / 16 % 16 := by omega
  have e2 : (2048 * s.val + R.val) / 16 % 2 = R.val / 16 % 2 := by omega
  have e3 : (2048 * s.val + R.val) % 16 = R.val % 16 := by omega
  unfold stripeWeights wspec gspec highOf lowOf scalesOf superOf entryWeight groupScale
  simp only [ix2_0, ix2_1, ix3_0, ix3_1, ix3_2, ix4_0, ix4_1, ix4_2, ix4_3, e0, e1, e2, e3]
  exact congr (congr (congrArg (weight _) (V_v2 m c _ _ o)) (V_v1 m c _ _ o))
    (congr (congr (congrArg (scale _) (V_v4 m c _ o)) (V_v3 m c _ _ o)) (V_v3 m c _ _ o))

/-! ## The entries of the result -/

/-- An entry of a product, over the reals. -/
theorem product_apply (x : FVec Ideal S512x4096 .bf16) (w : FVec Ideal S2048x4096 .bf16) (r : Fin 512) (n : Fin 2048) :
    product (F := Ideal) x w (ix2 r n) = ∑ k : Fin 4096, x (ix2 r k) * w (ix2 n k) := by
  unfold product k0_pay6
  pointwise

/-- The entry of the input gradient at row `r` and input `n`, over the reals: the sum over the outputs of the gradient times the weight. -/
def entry (A0 : S12x768x4096.Idx → Ideal .bf16) (A1 : S4096x56x32.Idx → BitVec 8) (A2 : S4096x56x64.Idx → BitVec 8)
    (A3 : S4096x56x12.Idx → BitVec 8) (A4 : S4096x56.Idx → Ideal .f16) (r : Fin 9216) (n : Fin 14336) : Ideal .bf16 :=
  ∑ k : Fin 4096, A0 (ix3 (⟨r.val / 768, by omega⟩ : Fin 12) (⟨r.val % 768, by omega⟩ : Fin 768) k) * entryWeight (F := Ideal) A1 A2 A3 A4 k n

theorem resultBlock_apply (m : (ℓ : Loc nD τ sig) → Buf (Elt Ideal) ℓ) (c : Dev nD) (r : Fin 9216) (n : Fin 14336)
    (i : Fin 18) (s : Fin 7) (y : Fin 512) (z : Fin 2048) (hr : 512 * i.val + y.val = r.val) (hn : 2048 * s.val + z.val = n.val) :
    resultBlock (F := Ideal) m c i s (ix2 y z)
      = entry (m (c.tc.loc main_arg0)) (m (c.tc.loc main_arg1)) (m (c.tc.loc main_arg2)) (m (c.tc.loc main_arg3)) (m (c.tc.loc main_arg4)) r n := by
  have er : (⟨512 * i.val + y.val, by omega⟩ : Fin 9216) = r := Fin.ext hr
  have en : (⟨2048 * s.val + z.val, by omega⟩ : Fin 14336) = n := Fin.ext hn
  refine (product_apply _ _ y z).trans (Finset.sum_congr rfl fun k _ => ?_)
  refine congrArg₂ _ ?_ ?_
  · refine Eq.trans ?_ (V_v0 m c r k)
    show V m c main_v0 (ix2 (⟨512 * i.val + y.val, by omega⟩ : Fin 9216) k) = _
    rw [er]
  · refine (stripeWeights_apply m c s z k).trans ?_
    rw [en]

/-- The kernel's result, entry by entry. -/
theorem result_apply (m : (ℓ : Loc nD τ sig) → Buf (Elt Ideal) ℓ) (c : Dev nD) (r : Fin 9216) (n : Fin 14336) :
    result (F := Ideal) m c (ix2 r n)
      = entry (m (c.tc.loc main_arg0)) (m (c.tc.loc main_arg1)) (m (c.tc.loc main_arg2)) (m (c.tc.loc main_arg3)) (m (c.tc.loc main_arg4)) r n :=
  resultBlock_apply m c r n _ _ _ _ (by show 512 * (r.val / 512) + r.val % 512 = r.val; omega)
    (by show 2048 * (n.val / 2048) + n.val % 2048 = n.val; omega)

end Cert.KernelIdeal.Hand

end
-- ==== Proof.RValue.lean ====
/- The entries of the reference's result, in terms of its arguments. -/
module

public import proofs.«01_k».proof.Proof.Gen.ReferenceIdeal.Frame
public import proofs.«01_k».proof.Proof.IValue
public import Idealize.ShloMosaic.Lib.Claim
public import Idealize.ShloMosaic.Lib.Pointwise
public import Idealize.ShloMosaic.Lib.StableHlo.ReadAt

@[expose] public section

set_option maxRecDepth 16384
set_option maxHeartbeats 4000000

noncomputable section

namespace Cert.ReferenceIdeal.Hand

open Idealize.ShloMosaic Idealize.ShloMosaic.TcCoe Idealize.ShloMosaic.Tactic
open Idealize.SL Idealize.SL.Sem
open Cert.ReferenceIdeal Cert.ReferenceIdeal.Gen
open Cert.KernelIdeal.Hand (codeByte weight scaleCode scale groupScale entryWeight entry)

variable {F : FTy → Type} [FloatOps F]

/-! ## Words and bytes -/

/-- A shift of a widened byte cut to low bits is the byte's shift cut to them, widened. -/
theorem shift_mask (q : BitVec 8) (a : BitVec 32) (s : ℕ) (hs : s < 32) (ha : a = BitVec.ofNat 32 s) (k : BitVec 8) :
    IntOp.andi (IntOp.shrsi .host (q.setWidth 32) a) (k.setWidth 32) = ((q >>> s) &&& k).setWidth 32 := by
  subst ha
  have e : (BitVec.ofNat 32 s).toNat = s := by rw [BitVec.toNat_ofNat]; omega
  have hm : (q.setWidth 32).msb = false := by
    rw [BitVec.msb_eq_false_iff_two_mul_lt, BitVec.toNat_setWidth]
    have := q.isLt
    omega
  show (if _ then _ else _ : BitVec 32) &&& _ = _
  rw [if_pos (by rw [e]; omega), BitVec.sshiftRight', e, BitVec.sshiftRight_eq_of_msb_false hm]
  apply BitVec.eq_of_getLsbD_eq
  intro i hi
  simp only [BitVec.getLsbD_and, BitVec.getLsbD_ushiftRight, BitVec.getLsbD_setWidth]
  rcases Nat.lt_or_ge (s + i) 32 with h | h
  · simp [h, hi]
  · simp [show ¬ s + i < 32 by omega, BitVec.getLsbD_of_ge q (s + i) (by omega)]

theorem code_join (x y : BitVec 8) (hx : x.toNat < 4) (hy : y.toNat < 2) :
    (IntOp.subi (IntOp.addi (x.setWidth 32) (IntOp.muli 4#32 (y.setWidth 32))) 4#32).toInt = (x ||| (y <<< 2)).toInt - 4 := by
  obtain ⟨a, rfl⟩ : ∃ a : Fin 4, x = BitVec.ofNat 8 a.val := ⟨⟨x.toNat, hx⟩, by simp⟩
  obtain ⟨b, rfl⟩ : ∃ b : Fin 2, y = BitVec.ofNat 8 b.val := ⟨⟨y.toNat, hy⟩, by simp⟩
  revert a b
  decide

/-- The reference's code of a weight less four, a word, is the kernel's code, a byte, less four. -/
theorem code_eq (k : ℕ) (hk : k < 8) (q h : BitVec 8) (a b : BitVec 32) (ha : a = BitVec.ofNat 32 (2 * (k % 4))) (hb : b = BitVec.ofNat 32 k) :
    (IntOp.subi (IntOp.addi (IntOp.andi (IntOp.shrsi .host (q.setWidth 32) a) 3#32)
        (IntOp.muli 4#32 (IntOp.andi (IntOp.shrsi .host (h.setWidth 32) b) 1#32))) 4#32).toInt
      = (codeByte k q h).toInt - 4 := by
  have e3 : 3#32 = (3#8).setWidth 32 := by decide
  have e1 : 1#32 = (1#8).setWidth 32 := by decide
  rw [e3, e1, shift_mask q a _ (by omega) ha, shift_mask h b _ (by omega) hb]
  unfold codeByte
  refine code_join _ _ ?_ ?_
  · rw [BitVec.toNat_and]
    exact Nat.lt_of_le_of_lt Nat.and_le_right (by decide)
  · rw [BitVec.toNat_and]
    exact Nat.lt_of_le_of_lt Nat.and_le_right (by decide)

/-! ## The codes of the scales -/

/-- A shift of a word to the right by a number below 32. -/
theorem shrsi_eq (x a : BitVec 32) (n : ℕ) (hn : n < 32) (ha : a = BitVec.ofNat 32 n) : IntOp.shrsi .host x a = x.sshiftRight n := by
  subst ha
  have e : (BitVec.ofNat 32 n).toNat = n := by rw [BitVec.toNat_ofNat]; omega
  show (if _ then _ else _ : BitVec 32) = _
  rw [if_pos (by rw [e]; omega), BitVec.sshiftRight', e]

/-- The code of a scale out of the low half of its byte of low bits. -/
theorem scaleCode_low (i : ℕ) (x y : BitVec 8) (c : BitVec 32) (hi : i < 8) (hc : c = BitVec.ofNat 32 (2 * (i / 4))) :
    IntOp.subi (IntOp.ori (IntOp.andi (x.setWidth 32) 15#32)
      (IntOp.shli .host (IntOp.andi (IntOp.shrsi .host (y.setWidth 32) c) 3#32) 4#32)) 32#32 = scaleCode i x y := by
  rw [shrsi_eq _ _ _ (by omega) hc]
  unfold scaleCode
  rw [show 4 * (i / 8) = 0 by omega, BitVec.sshiftRight_zero]
  rfl

/-- The code of a scale out of the high half of its byte of low bits. -/
theorem scaleCode_high (i : ℕ) (x y : BitVec 8) (c : BitVec 32) (hi : 8 ≤ i) (hi' : i < 16) (hc : c = BitVec.ofNat 32 (2 * (i / 4))) :
    IntOp.subi (IntOp.ori (IntOp.andi (IntOp.shrsi .host (x.setWidth 32) 4#32) 15#32)
      (IntOp.shli .host (IntOp.andi (IntOp.shrsi .host (y.setWidth 32) c) 3#32) 4#32)) 32#32 = scaleCode i x y := by
  rw [shrsi_eq _ _ _ (by omega) hc, shrsi_eq _ _ 4 (by omega) rfl]
  unfold scaleCode
  rw [show 4 * (i / 8) = 4 by omega]
  rfl

/-- The bytes of the scales, by the number of the byte. -/
def byteAt (W : Valuation τ sig (Elt F)) (o : Fin 4096) (a : Fin 56) (s : Fin 12) : BitVec 8 :=
  (W (Proc.devRef .tc main_arg3) : S4096x56x12.Idx → BitVec 8) (ix3 o a s)

theorem v3_apply (W : Valuation τ sig (Elt F)) (o : Fin 4096) (a : Fin 56) (i : Fin 8) :
    StableHlo.upto hostOps0 W 12 (Proc.devRef .tc main_v3) (ix3 o a i)
      = IntOp.andi ((byteAt W o a ⟨i.val, by omega⟩).setWidth 32) 15#32 := by
  unfold byteAt
  after_reads_at

theorem v8_apply (W : Valuation τ sig (Elt F)) (o : Fin 4096) (a : Fin 56) (i : Fin 8) :
    StableHlo.upto hostOps0 W 12 (Proc.devRef .tc main_v8) (ix3 o a i)
      = IntOp.andi (IntOp.shrsi .host ((byteAt W o a ⟨i.val, by omega⟩).setWidth 32) 4#32) 15#32 := by
  unfold byteAt
  after_reads_at

theorem v14_apply (W : Valuation τ sig (Elt F)) (o : Fin 4096) (a : Fin 56) (i : Fin 4) :
    StableHlo.upto hostOps0 W 41 (Proc.devRef .tc main_v14) (ix3 o a i)
      = IntOp.andi (IntOp.shrsi .host ((byteAt W o a ⟨8 + i.val, by omega⟩).setWidth 32) 0#32) 3#32 := by
  unfold byteAt
  after_reads_at

theorem v19_apply (W : Valuation τ sig (Elt F)) (o : Fin 4096) (a : Fin 56) (i : Fin 4) :
    StableHlo.upto hostOps0 W 41 (Proc.devRef .tc main_v19) (ix3 o a i)
      = IntOp.andi (IntOp.shrsi .host ((byteAt W o a ⟨8 + i.val, by omega⟩).setWidth 32) 2#32) 3#32 := by
  unfold byteAt
  after_reads_at

theorem v24_apply (W : Valuation τ sig (Elt F)) (o : Fin 4096) (a : Fin 56) (i : Fin 4) :
    StableHlo.upto hostOps0 W 41 (Proc.devRef .tc main_v24) (ix3 o a i)
      = IntOp.andi (IntOp.shrsi .host ((byteAt W o a ⟨8 + i.val, by omega⟩).setWidth 32) 4#32) 3#32 := by
  unfold byteAt
  after_reads_at

theorem v29_apply (W : Valuation τ sig (Elt F)) (o : Fin 4096) (a : Fin 56) (i : Fin 4) :
    StableHlo.upto hostOps0 W 41 (Proc.devRef .tc main_v29) (ix3 o a i)
      = IntOp.andi (IntOp.shrsi .host ((byteAt W o a ⟨8 + i.val, by omega⟩).setWidth 32) 6#32) 3#32 := by
  unfold byteAt
  after_reads_at

/-- The reference's code of a group's scale, from its low and its high bits. -/
theorem v33_read (W : Valuation τ sig (Elt F)) (o : Fin 4096) (a : Fin 56) (i : Fin 16) :
    (StableHlo.after hostOps0 W (Proc.devRef .tc main_v33) : S4096x56x16.Idx → BitVec 32) (ix3 o a i)
      = IntOp.ori
        (if h : i.val < 8 then IntOp.andi ((byteAt W o a ⟨i.val, by omega⟩).setWidth 32) 15#32
          else IntOp.andi (IntOp.shrsi .host ((byteAt W o a ⟨i.val - 8, by omega⟩).setWidth 32) 4#32) 15#32)
        (IntOp.shli .host
          (if h : i.val < 4 then IntOp.andi (IntOp.shrsi .host ((byteAt W o a ⟨8 + i.val, by omega⟩).setWidth 32) 0#32) 3#32
            else if h : i.val - 4 < 4 then IntOp.andi (IntOp.shrsi .host ((byteAt W o a ⟨8 + (i.val - 4), by omega⟩).setWidth 32) 2#32) 3#32
            else if h : i.val - 4 - 4 < 4 then IntOp.andi (IntOp.shrsi .host ((byteAt W o a ⟨8 + (i.val - 4 - 4), by omega⟩).setWidth 32) 4#32) 3#32
            else IntOp.andi (IntOp.shrsi .host ((byteAt W o a ⟨8 + (i.val - 4 - 4 - 4), by omega⟩).setWidth 32) 6#32) 3#32)
          4#32) := by
  after_reads_at
  refine congrArg₂ IntOp.ori (dite_congr rfl (fun h => v3_apply W o a ⟨i.val, h⟩) fun h => v8_apply W o a ⟨i.val - 8, by omega⟩)
    (congrArg (IntOp.shli .host · 4#32) (dite_congr rfl (fun h => v14_apply W o a ⟨i.val, h⟩) fun h =>
      dite_congr rfl (fun h => v19_apply W o a ⟨i.val - 4, h⟩) fun h =>
        dite_congr rfl (fun h => v24_apply W o a ⟨i.val - 4 - 4, h⟩) fun h => v29_apply W o a ⟨i.val - 4 - 4 - 4, by omega⟩))

/-- The code of a group's scale out of twelve bytes. -/
theorem scaleCode_cases (b : Fin 12 → BitVec 8) (i : ℕ) (hi : i < 16) :
    IntOp.subi (IntOp.ori
        (if h : i < 8 then IntOp.andi ((b ⟨i, by omega⟩).setWidth 32) 15#32
          else IntOp.andi (IntOp.shrsi .host ((b ⟨i - 8, by omega⟩).setWidth 32) 4#32) 15#32)
        (IntOp.shli .host
          (if h : i < 4 then IntOp.andi (IntOp.shrsi .host ((b ⟨8 + i, by omega⟩).setWidth 32) 0#32) 3#32
            else if h : i - 4 < 4 then IntOp.andi (IntOp.shrsi .host ((b ⟨8 + (i - 4), by omega⟩).setWidth 32) 2#32) 3#32
            else if h : i - 4 - 4 < 4 then IntOp.andi (IntOp.shrsi .host ((b ⟨8 + (i - 4 - 4), by omega⟩).setWidth 32) 4#32) 3#32
            else IntOp.andi (IntOp.shrsi .host ((b ⟨8 + (i - 4 - 4 - 4), by omega⟩).setWidth 32) 6#32) 3#32)
          4#32)) 32#32
      = scaleCode i (b ⟨i % 8, by omega⟩) (b ⟨8 + i % 4, by omega⟩) := by
  have hc : i < 4 ∨ (4 ≤ i ∧ i < 8) ∨ (8 ≤ i ∧ i < 12) ∨ (12 ≤ i ∧ i < 16) := by omega
  rcases hc with h | ⟨h, h'⟩ | ⟨h, h'⟩ | ⟨h, h'⟩
  · have e1 : i % 8 = i := by omega
    have e2 : i % 4 = i := by omega
    rw [dif_pos (by omega), dif_pos (by omega), scaleCode_low i _ _ _ (by omega) (by rw [show i / 4 = 0 by omega])]
    simp only [e1, e2]
  · have e1 : i % 8 = i := by omega
    have e2 : i % 4 = i - 4 := by omega
    rw [dif_pos (by omega), dif_neg (by omega), dif_pos (by omega),
      scaleCode_low i _ _ _ (by omega) (by rw [show i / 4 = 1 by omega])]
    simp only [e1, e2]
  · have e1 : i % 8 = i - 8 := by omega
    have e2 : i % 4 = i - 4 - 4 := by omega
    rw [dif_neg (by omega), dif_neg (by omega), dif_neg (by omega), dif_pos (by omega),
      scaleCode_high i _ _ _ (by omega) (by omega) (by rw [show i / 4 = 2 by omega])]
    simp only [e1, e2]
  · have e1 : i % 8 = i - 8 := by omega
    have e2 : i % 4 = i - 4 - 4 - 4 := by omega
    rw [dif_neg (by omega), dif_neg (by omega), dif_neg (by omega), dif_neg (by omega),
      scaleCode_high i _ _ _ (by omega) (by omega) (by rw [show i / 4 = 3 by omega])]
    simp only [e1, e2]

/-- The reference's code of a group's scale, less 32. -/
theorem v33_apply (W : Valuation τ sig (Elt F)) (o : Fin 4096) (a : Fin 56) (i : Fin 16) :
    IntOp.subi ((StableHlo.after hostOps0 W (Proc.devRef .tc main_v33) : S4096x56x16.Idx → BitVec 32) (ix3 o a i)) 32#32
      = scaleCode i.val (byteAt W o a ⟨i.val % 8, by omega⟩) (byteAt W o a ⟨8 + i.val % 4, by omega⟩) := by
  rw [v33_read]
  exact scaleCode_cases (byteAt W o a) i.val i.isLt

/-! ## The weights -/

/-- The reference's code of a weight, less four, is the code of the weight's byte. -/
theorem v74_apply (W : Valuation τ sig (Elt F)) (o : Fin 4096) (a : Fin 56) (h : Fin 2) (j : Fin 4) (l : Fin 32) :
    ((StableHlo.after hostOps1 W (Proc.devRef .tc main_v74) : S4096x56x2x4x32.Idx → BitVec 32) (ix5 o a h j l)).toInt
      = (codeByte (4 * h.val + j.val) ((W (Proc.devRef .tc main_arg2) : S4096x56x64.Idx → BitVec 8) (ix3 o a ⟨h.val * 32 + l.val, by omega⟩))
          ((W (Proc.devRef .tc main_arg1) : S4096x56x32.Idx → BitVec 8) (ix3 o a l))).toInt - 4 := by
  after_reads_at
  refine code_eq (4 * h.val + j.val) (by omega) _ _ _ _ ?_ ?_
  · fin_cases h <;> fin_cases j <;> rfl
  · fin_cases h <;> fin_cases j <;> rfl

/-- The reference's scale of a group. -/
theorem v41_apply (W : Valuation τ sig (Elt F)) (o : Fin 4096) (a : Fin 56) (i : Fin 16) :
    (StableHlo.after hostOps1 W (Proc.devRef .tc main_v41) : S4096x56x16.Idx → F .bf16) (ix3 o a i)
      = FloatOps.truncf FTy.bf16 bitsLt_bf16_f32 (FloatOps.mulf ((W (Proc.devRef .tc main_v34) : S4096x56.Idx → F .f32) (ix2 o a))
          (FloatOps.sitofp FTy.f32 (IntOp.subi ((W (Proc.devRef .tc main_v33) : S4096x56x16.Idx → BitVec 32) (ix3 o a i)) 32#32))) := by
  after_reads_at

/-- The weights as an array, from the codes and the scales. -/
def weights (q : IVec S4096x56x2x4x32 32) (g : FVec F S4096x56x16 .bf16) : FVec F S4096x14336 .bf16 :=
  shapeCast S4096x14336 (mulf (shapeCast S4096x56x16x16 (sitofp .bf16 q) shapeCasts_S4096x56x2x4x32_S4096x56x16x16)
    (broadcastInDim S4096x56x16x16 ![0, 1, 2, 3] bcast_S4096x56x16x1_S4096x56x16x16_0_1_2_3
      (broadcastInDim S4096x56x16x1 ![0, 1, 2] bcast_S4096x56x16_S4096x56x16x1_0_1_2 g))) shapeCasts_S4096x56x16x16_S4096x14336

theorem weights_apply (q : IVec S4096x56x2x4x32 32) (g : FVec F S4096x56x16 .bf16) (o : Fin 4096) (n : Fin 14336) :
    weights q g (ix2 o n) = FloatOps.mulf
      (FloatOps.sitofp FTy.bf16 (q (ix5 o ⟨n.val / 256, by omega⟩ ⟨n.val / 16 % 16 / 8, by omega⟩ ⟨n.val / 16 % 16 / 2 % 4, by omega⟩
        ⟨n.val / 16 % 16 % 2 * 16 + n.val % 16, by omega⟩)))
      (g (ix3 o ⟨n.val / 256, by omega⟩ ⟨n.val / 16 % 16, by omega⟩)) := by
  unfold weights
  pointwise

theorem v81_eq (W : Valuation τ sig (Elt F)) :
    (StableHlo.after hostOps1 W (Proc.devRef .tc main_v81) : S4096x14336.Idx → F .bf16)
      = weights (StableHlo.after hostOps1 W (Proc.devRef .tc main_v74) : IVec S4096x56x2x4x32 32)
          (StableHlo.after hostOps1 W (Proc.devRef .tc main_v41) : FVec F S4096x56x16 .bf16) := by
  unfold weights
  after_reads_simp
  rfl

/-- Over the reals a word less four, as a number, is the word's number less four. -/
theorem code_real (w : BitVec 32) (b : BitVec 8) (h : w.toInt = b.toInt - 4) :
    (FloatOps.sitofp .bf16 w : Ideal .bf16) = FloatOps.subf (FloatOps.sitofp .bf16 b) (Scalar.ofBits .bf16 0x4080#16) := by
  have e : (Scalar.ofBits .bf16 0x4080#16 : Ideal .bf16) = ((4 : ℝ) : EReal) := by
    show Ideal.ofBits .bf16 0x4080#16 = _
    simp [Ideal.ofBits, Ideal.ieee, -EReal.coe_mul]
    norm_num
  rw [e]
  show ((w.toInt : ℝ) : EReal) = ((b.toInt : ℝ) : EReal) - ((4 : ℝ) : EReal)
  rw [h, ← EReal.coe_sub]
  push_cast
  rfl

/-- An entry of the reference's weights, over the reals: the code less four, times the scale. -/
theorem v81_apply (W : Valuation τ sig (Elt Ideal)) (o : Fin 4096) (n : Fin 14336)
    (A1 : S4096x56x32.Idx → BitVec 8) (A2 : S4096x56x64.Idx → BitVec 8) (A3 : S4096x56x12.Idx → BitVec 8) (A4 : S4096x56.Idx → Ideal .f16)
    (h1 : W (Proc.devRef .tc main_arg1) = A1) (h2 : W (Proc.devRef .tc main_arg2) = A2)
    (h33 : ∀ (a : Fin 56) (i : Fin 16), IntOp.subi ((W (Proc.devRef .tc main_v33) : S4096x56x16.Idx → BitVec 32) (ix3 o a i)) 32#32
      = scaleCode i.val (A3 (ix3 o a ⟨i.val % 8, by omega⟩)) (A3 (ix3 o a ⟨8 + i.val % 4, by omega⟩)))
    (h34 : ∀ a : Fin 56, (W (Proc.devRef .tc main_v34) : S4096x56.Idx → Ideal .f32) (ix2 o a) = FloatOps.extf .f32 (by decide) (A4 (ix2 o a))) :
    (StableHlo.after (hostOps1 (F := Ideal)) W (Proc.devRef .tc main_v81) : S4096x14336.Idx → Ideal .bf16) (ix2 o n)
      = entryWeight (F := Ideal) A1 A2 A3 A4 o n := by
  subst h1 h2
  rw [v81_eq, weights_apply, v41_apply, h33, h34, code_real _ _ (v74_apply W _ _ _ _ _)]
  unfold entryWeight weight groupScale scale
  have e0 : 4 * (n.val / 16 % 16 / 8) + n.val / 16 % 16 / 2 % 4 = n.val / 16 % 16 / 2 := by omega
  have e1 : n.val / 16 % 16 % 2 * 16 + n.val % 16 = 16 * (n.val / 16 % 2) + n.val % 16 := by omega
  have e2 : n.val / 16 % 16 / 8 * 32 + (16 * (n.val / 16 % 2) + n.val % 16) = 32 * (n.val / 16 % 16 / 8) + (16 * (n.val / 16 % 2) + n.val % 16) := by omega
  simp only [e0, e1, e2]

/-! ## The result -/

theorem v83_eq (W : Valuation τ sig (Elt F)) :
    (StableHlo.after hostOps1 W (Proc.devRef .tc main_v83) : S9216x14336.Idx → F .bf16)
      = truncf .bf16 (Host.dotGeneral dot_S9216x4096_S4096x14336_S9216x14336_1_0_0_1_n_n none
          (StableHlo.after hostOps1 W (Proc.devRef .tc main_v80) : S9216x4096.Idx → F .bf16)
          (StableHlo.after hostOps1 W (Proc.devRef .tc main_v81) : S4096x14336.Idx → F .bf16)) bitsLt_bf16_f32 := by
  after_reads_simp

/-- An entry of the product of two arrays, over the reals. -/
theorem product_apply (x : S9216x4096.Idx → Ideal .bf16) (w : S4096x14336.Idx → Ideal .bf16) (r : Fin 9216) (n : Fin 14336) :
    (truncf .bf16 (Host.dotGeneral dot_S9216x4096_S4096x14336_S9216x14336_1_0_0_1_n_n none x w) bitsLt_bf16_f32
      : FVec Ideal S9216x14336 .bf16) (ix2 r n) = ∑ k : Fin 4096, x (ix2 r k) * w (ix2 k n) := by
  pointwise

/-- The gradient, its first two axes joined. -/
theorem v80_apply (W : Valuation τ sig (Elt F)) (r : Fin 9216) (o : Fin 4096) :
    (StableHlo.after hostOps1 W (Proc.devRef .tc main_v80) : S9216x4096.Idx → F .bf16) (ix2 r o)
      = (W (Proc.devRef .tc main_arg0) : S12x768x4096.Idx → F .bf16) (ix3 (⟨r.val / 768, by omega⟩ : Fin 12) (⟨r.val % 768, by omega⟩ : Fin 768) o) := by
  after_reads_at

/-- An entry of the reference's result, over the reals. -/
theorem v83_apply (W : Valuation τ sig (Elt Ideal)) (r : Fin 9216) (n : Fin 14336)
    (A0 : S12x768x4096.Idx → Ideal .bf16)
    (A1 : S4096x56x32.Idx → BitVec 8) (A2 : S4096x56x64.Idx → BitVec 8) (A3 : S4096x56x12.Idx → BitVec 8) (A4 : S4096x56.Idx → Ideal .f16)
    (h0 : W (Proc.devRef .tc main_arg0) = A0) (h1 : W (Proc.devRef .tc main_arg1) = A1) (h2 : W (Proc.devRef .tc main_arg2) = A2)
    (h33 : ∀ (o : Fin 4096) (a : Fin 56) (i : Fin 16), IntOp.subi ((W (Proc.devRef .tc main_v33) : S4096x56x16.Idx → BitVec 32) (ix3 o a i)) 32#32
      = scaleCode i.val (A3 (ix3 o a ⟨i.val % 8, by omega⟩)) (A3 (ix3 o a ⟨8 + i.val % 4, by omega⟩)))
    (h34 : ∀ (o : Fin 4096) (a : Fin 56), (W (Proc.devRef .tc main_v34) : S4096x56.Idx → Ideal .f32) (ix2 o a) = FloatOps.extf .f32 (by decide) (A4 (ix2 o a))) :
    (StableHlo.after (hostOps1 (F := Ideal)) W (Proc.devRef .tc main_v83) : S9216x14336.Idx → Ideal .bf16) (ix2 r n)
      = entry A0 A1 A2 A3 A4 r n := by
  rw [v83_eq]
  refine (product_apply _ _ r n).trans ?_
  unfold entry
  refine Finset.sum_congr rfl fun k _ => ?_
  rw [v80_apply, h0, v81_apply W k n A1 A2 A3 A4 h1 h2 (h33 k) (h34 k)]

end Cert.ReferenceIdeal.Hand

end
-- ==== Proof.RRun.lean ====
/- The runs of the reference: every one ends with its result, entry by entry, the one named and its arguments unchanged. -/
module

public import proofs.«01_k».proof.Proof.RValue
public import Idealize.ShloMosaic.Lib.Pipeline.ValueKit

@[expose] public section

set_option maxRecDepth 16384
set_option maxHeartbeats 4000000

noncomputable section

namespace Cert.ReferenceIdeal.Hand

open Idealize.ShloMosaic Idealize.ShloMosaic.TcCoe Idealize.ShloMosaic.Tactic
open Idealize.SL Idealize.SL.Sem
open Idealize.ShloMosaic.Pipeline (Dat Cfg Window)
open Cert.ReferenceIdeal Cert.ReferenceIdeal.Gen
open Cert.KernelIdeal.Hand (codeByte weight scaleCode scale groupScale entryWeight entry)

variable {F : FTy → Type} [FloatOps F]

variable (m : (ℓ : Loc nD τ sig) → Buf (Elt F) ℓ) (ρ : Dev nD → PrngReg)

/-- The scales of the blocks after the region, widened. -/
theorem widened (c : Dev nD) : (dats m 0 c).arrAt 1 (cfgs 0).N
    = (fun x => FloatOps.extf .f32 bitsLt_f16_f32 (m (c.tc.loc main_arg4) x) : S4096x56.Idx → F .f32) := by
  refine (dats m 0 c).arrAt_eq_of_covers 1 _ (by decide +kernel) fun t hf y => ?_
  blk_simp
  rw [after0_1]
  frame_out
  unfold_payloads
  show FloatOps.extf .f32 bitsLt_f16_f32 (V m c main_arg4 (((cfg0.win 0).blk t).view.emb y)) = _
  rw [V_main_arg4]
  rfl

/-- The arrays after the region, before the host operations that follow it. -/
def W (c : Dev nD) : Valuation τ sig (Elt F) :=
  Pipeline.withArrays (cfgs 0).spec c (V0 m c) fun w => (dats m 0 c).arrAt w (cfgs 0).N

theorem W_of_ne (c : Dev nD) (b : Ref sig .tc) (hb : ∀ w, Pipeline.arrRef spec0 w ≠ b) : W m c (Proc.devRef .tc b) = V m c b :=
  Pipeline.withArrays_of_ne _ c (V0 m c) _ b hb

theorem W_v34 (c : Dev nD) : W m c (Proc.devRef .tc main_v34)
    = (fun x => FloatOps.extf .f32 bitsLt_f16_f32 (m (c.tc.loc main_arg4) x) : S4096x56.Idx → F .f32) :=
  (Pipeline.withArrays_arr spec0 (by decide) c (V0 m c) _ 1).trans (widened m c)

theorem W_v33 (c : Dev nD) (o : Fin 4096) (a : Fin 56) (i : Fin 16) :
    IntOp.subi ((W m c (Proc.devRef .tc main_v33) : S4096x56x16.Idx → BitVec 32) (ix3 o a i)) 32#32
      = scaleCode i.val ((m (c.tc.loc main_arg3) : S4096x56x12.Idx → BitVec 8) (ix3 o a ⟨i.val % 8, by omega⟩))
          ((m (c.tc.loc main_arg3) : S4096x56x12.Idx → BitVec 8) (ix3 o a ⟨8 + i.val % 4, by omega⟩)) := by
  rw [W_of_ne m c main_v33 (by decide)]
  exact v33_apply (fun b => m (c, b)) o a i

end Cert.ReferenceIdeal.Hand

namespace Cert.ReferenceIdeal.Hand

open Idealize.ShloMosaic Idealize.ShloMosaic.TcCoe Idealize.ShloMosaic.Tactic
open Idealize.SL Idealize.SL.Sem
open Cert.ReferenceIdeal Cert.ReferenceIdeal.Gen
open Cert.KernelIdeal.Hand (entry)

variable (m : (ℓ : Loc nD τ sig) → Buf (Elt Ideal) ℓ) (ρ : Dev nD → PrngReg)

/-- The reference's result array: at row `r` and input `n` the sum over the outputs of the gradient times the weight. -/
def result (c : Dev nD) : S9216x14336.Idx → Ideal .bf16 := fun y =>
  entry (m (c.tc.loc main_arg0)) (m (c.tc.loc main_arg1)) (m (c.tc.loc main_arg2)) (m (c.tc.loc main_arg3)) (m (c.tc.loc main_arg4)) (y 0) (y 1)

theorem result_array (c : Dev nD) : Pipeline.afterTail₀ cfgs (dats m) 0 (V0 m) [hostOps1] c main_v83 = result m c := by
  show StableHlo.after hostOps1 (W m c) (Proc.devRef .tc main_v83) = _
  funext y
  have hy : y = ix2 (y 0) (y 1) := eq_ix2 y
  rw [hy]
  exact v83_apply (W m c) (y 0) (y 1) _ _ _ _ _
    ((W_of_ne m c main_arg0 (by decide)).trans (V_main_arg0 m c)) ((W_of_ne m c main_arg1 (by decide)).trans (V_main_arg1 m c))
    ((W_of_ne m c main_arg2 (by decide)).trans (V_main_arg2 m c)) (W_v33 m c)
    (fun o a => congrFun (W_v34 m c) (ix2 o a))

/-- Every run ends with the result in its array and the arguments as they began. -/
theorem run_result : θ_run defs (onTc (τ := τ) (main (F := Ideal))) ⟨m, fun _ => 0, ρ⟩ (fun r => ∀ c : Dev nD,
      r.2.mem ((c.tc : Thread nD τ).loc main_v83) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).2 main_v83 (Pipeline.mem_restRefs_of main_v83 (by decide) (by decide))).trans (result_array m c), h.2 c⟩)
    (θ_run_and (run_main m ρ) (unchanged m ρ))

end Cert.ReferenceIdeal.Hand

end
-- ==== Proof.lean ====
/- The claims about the input gradient of a Q3_K linear layer, from the modules under Proof/. -/
module

public import proofs.«01_k».proof.Defs
public import proofs.«01_k».proof.Proof.KFrame
public import proofs.«01_k».proof.Proof.IFrame
public import proofs.«01_k».proof.Proof.Gen.ReferenceIdeal.Frame
public import proofs.«01_k».proof.Proof.IValue
public import proofs.«01_k».proof.Proof.RRun
public import Idealize.ShloMosaic.Lib.Bf16Pair
public import Idealize.ShloMosaic.Lib.Bf16PairInverse

@[expose] public section

noncomputable section

namespace Cert.Proof

open Idealize.ShloMosaic Idealize.SL.Sem

/-- The rewrites that take the kernel to its idealization keep what it computes. -/
theorem preserves : Cert.preserves_Kernel_KernelIdeal :=
  ⟨IdealRules.bf16_pair.bufferStatement _ _, IdealRules.bf16_pair.packStatement _, IdealRules.bf16_pair.statement _ _,
    IdealRules.bf16_pair.statement _ _, IdealRules.bf16_pair.statement _ _⟩

/-- Over the reals the kernel and the reference compute the same array: at row `r` and input `n`, the sum over the outputs of
the gradient times the dequantised weight. -/
theorem algebraic : Cert.algebraic_KernelIdeal_ReferenceIdeal := by
  intro m g m' g' _ hargs
  refine ⟨fun c => Cert.KernelIdeal.Hand.result (F := Ideal) m c, Cert.KernelIdeal.Hand.run_result m g, ?_⟩
  refine (θ_run Cert.ReferenceIdeal.defs _ _).mono (fun _ h c => ⟨(h c).1.trans ?_, (h c).2⟩) (Cert.ReferenceIdeal.Hand.run_result m' g')
  obtain ⟨h0, h1, h2, h3, h4⟩ := hargs c
  funext y
  rw [eq_ix2 y]
  refine Eq.trans ?_ (Cert.KernelIdeal.Hand.result_apply m c (y 0) (y 1)).symm
  show Cert.KernelIdeal.Hand.entry _ _ _ _ _ (y 0) (y 1) = _
  rw [h0, h1, h2, h3, h4]

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => Cert.ReferenceIdeal.Gen.frame m ρ, preserves, algebraic⟩

end Cert.Proof

end
